-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_code [hPre_finite_code : Cert.Pre_finite_code.Facts] (m : (ℓ : Loc Cert.KernelIdeal.nD Cert.KernelIdeal.τ Cert.KernelIdeal.sig) → Buf (Elt Ideal) ℓ) : Prop :=
  ∀ c : Dev Cert.KernelIdeal.nD,
    (Cert.Pre_finite_code.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_code [hPre_finite_code : Cert.Pre_finite_code.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_code.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_KernelIdeal_pre_finite_code [hKernelIdeal : Cert.KernelIdeal.Facts] [hPre_finite_code : Cert.Pre_finite_code.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_code m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def quiescent_ReferenceIdeal_pre_finite_code [hReferenceIdeal : Cert.ReferenceIdeal.Facts] [hPre_finite_code : Cert.Pre_finite_code.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_code m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def preserves_Kernel_KernelIdeal : Prop :=
  True

def algebraic_KernelIdeal_ReferenceIdeal_pre_finite_code [hKernelIdeal : Cert.KernelIdeal.Facts] [hReferenceIdeal : Cert.ReferenceIdeal.Facts] [hPre_finite_code : Cert.Pre_finite_code.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_code m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v273) = v0 c
          ∧ r.2.mem ((c.tc : Thread Cert.ReferenceIdeal.nD Cert.ReferenceIdeal.τ).loc Cert.ReferenceIdeal.main_v382) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_code : Cert.Pre_finite_code.Facts),
    quiescent_Kernel (hKernel := hKernel)
    ∧ quiescent_KernelIdeal (hKernelIdeal := hKernelIdeal)
    ∧ quiescent_KernelIdeal_pre_finite_code (hKernelIdeal := hKernelIdeal) (hPre_finite_code := hPre_finite_code)
    ∧ quiescent_ReferenceIdeal (hReferenceIdeal := hReferenceIdeal)
    ∧ quiescent_ReferenceIdeal_pre_finite_code (hReferenceIdeal := hReferenceIdeal) (hPre_finite_code := hPre_finite_code)
    ∧ preserves_Kernel_KernelIdeal
    ∧ algebraic_KernelIdeal_ReferenceIdeal_pre_finite_code (hKernelIdeal := hKernelIdeal) (hReferenceIdeal := hReferenceIdeal) (hPre_finite_code := hPre_finite_code)
-- ==== Pre_finite_code.lean ====
abbrev S256x512 : Shape := ⟨2, ![256, 512]⟩
abbrev S5x1x3 : Shape := ⟨3, ![5, 1, 3]⟩
abbrev S5 : Shape := ⟨1, ![5]⟩
abbrev S10x5x5 : Shape := ⟨3, ![10, 5, 5]⟩
abbrev S10 : Shape := ⟨1, ![10]⟩
abbrev S64x10x7 : Shape := ⟨3, ![64, 10, 7]⟩
abbrev S64 : Shape := ⟨1, ![64]⟩
abbrev S5x32x7 : Shape := ⟨3, ![5, 32, 7]⟩
abbrev S32x10x3 : Shape := ⟨3, ![32, 10, 3]⟩
abbrev S32 : Shape := ⟨1, ![32]⟩
abbrev S512x16384 : Shape := ⟨2, ![512, 16384]⟩
abbrev S512 : Shape := ⟨1, ![512]⟩
abbrev S32x1024 : Shape := ⟨2, ![32, 1024]⟩
abbrev S_ : Shape := ⟨0, ![]⟩

class Facts : Prop where
  bcast_S_S32x1024 : S_.BroadcastsInDim S32x1024 (![] : Fin 0 → Fin S32x1024.rank)

variable [Facts]

def fn {F : FTy → Type} [FloatOps F] (main_arg0 : FVec F S256x512 .f32) (main_arg1 : FVec F S5x1x3 .f32) (main_arg2 : FVec F S5 .f32) (main_arg3 : FVec F S10x5x5 .f32) (main_arg4 : FVec F S10 .f32) (main_arg5 : FVec F S64x10x7 .f32) (main_arg6 : FVec F S64 .f32) (main_arg7 : FVec F S5x32x7 .f32) (main_arg8 : FVec F S5 .f32) (main_arg9 : FVec F S10x5x5 .f32) (main_arg10 : FVec F S10 .f32) (main_arg11 : FVec F S32x10x3 .f32) (main_arg12 : FVec F S32 .f32) (main_arg13 : FVec F S5x32x7 .f32) (main_arg14 : FVec F S5 .f32) (main_arg15 : FVec F S10x5x5 .f32) (main_arg16 : FVec F S10 .f32) (main_arg17 : FVec F S32x10x3 .f32) (main_arg18 : FVec F S32 .f32) (main_arg19 : FVec F S512x16384 .f32) (main_arg20 : FVec F S512 .f32) (main_arg21 : FVec F S32x1024 .f32) : IVec S32x1024 1 :=
  let main_v0 : FVec F S32x1024 .f32 := Host.absf main_arg21
  let main_cst : FVec F S_ .f32 := constant S_ .f32 0x7F800000#32
  let main_v1 : FVec F S32x1024 .f32 := broadcastInDim S32x1024 ![] bcast_S_S32x1024 main_cst
  let main_v2 : IVec S32x1024 1 := cmpf .olt main_v0 main_v1
  main_v2
-- ==== Kernel.lean ====
abbrev S256x512 : Shape := ⟨2, ![256, 512]⟩
abbrev S5x1x3 : Shape := ⟨3, ![5, 1, 3]⟩
abbrev S5 : Shape := ⟨1, ![5]⟩
abbrev S10x5x5 : Shape := ⟨3, ![10, 5, 5]⟩
abbrev S10 : Shape := ⟨1, ![10]⟩
abbrev S64x10x7 : Shape := ⟨3, ![64, 10, 7]⟩
abbrev S64 : Shape := ⟨1, ![64]⟩
abbrev S5x32x7 : Shape := ⟨3, ![5, 32, 7]⟩
abbrev S32x10x3 : Shape := ⟨3, ![32, 10, 3]⟩
abbrev S32 : Shape := ⟨1, ![32]⟩
abbrev S512x16384 : Shape := ⟨2, ![512, 16384]⟩
abbrev S512 : Shape := ⟨1, ![512]⟩
abbrev S32x1024 : Shape := ⟨2, ![32, 1024]⟩
abbrev S256x512x1 : Shape := ⟨3, ![256, 512, 1]⟩
abbrev S3x1x5 : Shape := ⟨3, ![3, 1, 5]⟩
abbrev S3x5 : Shape := ⟨2, ![3, 5]⟩
abbrev S1x1x5 : Shape := ⟨3, ![1, 1, 5]⟩
abbrev S5x5x10 : Shape := ⟨3, ![5, 5, 10]⟩
abbrev S25x10 : Shape := ⟨2, ![25, 10]⟩
abbrev S1x1x10 : Shape := ⟨3, ![1, 1, 10]⟩
abbrev S7x10x64 : Shape := ⟨3, ![7, 10, 64]⟩
abbrev S70x64 : Shape := ⟨2, ![70, 64]⟩
abbrev S1x1x64 : Shape := ⟨3, ![1, 1, 64]⟩
abbrev S7x32x5 : Shape := ⟨3, ![7, 32, 5]⟩
abbrev S224x5 : Shape := ⟨2, ![224, 5]⟩
abbrev S3x10x32 : Shape := ⟨3, ![3, 10, 32]⟩
abbrev S30x32 : Shape := ⟨2, ![30, 32]⟩
abbrev S1x1x32 : Shape := ⟨3, ![1, 1, 32]⟩
abbrev S1024x32 : Shape := ⟨2, ![1024, 32]⟩
abbrev S256x512x32 : Shape := ⟨3, ![256, 512, 32]⟩
abbrev S512x32x512 : Shape := ⟨3, ![512, 32, 512]⟩
abbrev S16384x512 : Shape := ⟨2, ![16384, 512]⟩
abbrev S256x16384 : Shape := ⟨2, ![256, 16384]⟩
abbrev S1x512 : Shape := ⟨2, ![1, 512]⟩
abbrev S8x512x1 : Shape := ⟨3, ![8, 512, 1]⟩
abbrev S8x512x32 : Shape := ⟨3, ![8, 512, 32]⟩
abbrev S8x1x1 : Shape := ⟨3, ![8, 1, 1]⟩
abbrev S8x511x1 : Shape := ⟨3, ![8, 511, 1]⟩
abbrev S8x512x3 : Shape := ⟨3, ![8, 512, 3]⟩
abbrev S4096x3 : Shape := ⟨2, ![4096, 3]⟩
abbrev S4096x5 : Shape := ⟨2, ![4096, 5]⟩
abbrev S8x512x5 : Shape := ⟨3, ![8, 512, 5]⟩
abbrev S8x2x5 : Shape := ⟨3, ![8, 2, 5]⟩
abbrev S8x510x5 : Shape := ⟨3, ![8, 510, 5]⟩
abbrev S8x1x5 : Shape := ⟨3, ![8, 1, 5]⟩
abbrev S8x511x5 : Shape := ⟨3, ![8, 511, 5]⟩
abbrev S8x512x25 : Shape := ⟨3, ![8, 512, 25]⟩
abbrev S4096x25 : Shape := ⟨2, ![4096, 25]⟩
abbrev S4096x10 : Shape := ⟨2, ![4096, 10]⟩
abbrev S8x512x10 : Shape := ⟨3, ![8, 512, 10]⟩
abbrev S8x3x10 : Shape := ⟨3, ![8, 3, 10]⟩
abbrev S8x509x10 : Shape := ⟨3, ![8, 509, 10]⟩
abbrev S8x2x10 : Shape := ⟨3, ![8, 2, 10]⟩
abbrev S8x510x10 : Shape := ⟨3, ![8, 510, 10]⟩
abbrev S8x1x10 : Shape := ⟨3, ![8, 1, 10]⟩
abbrev S8x511x10 : Shape := ⟨3, ![8, 511, 10]⟩
abbrev S8x512x70 : Shape := ⟨3, ![8, 512, 70]⟩
abbrev S4096x70 : Shape := ⟨2, ![4096, 70]⟩
abbrev S4096x64 : Shape := ⟨2, ![4096, 64]⟩
abbrev S8x512x64 : Shape := ⟨3, ![8, 512, 64]⟩
abbrev S1024 : Shape := ⟨1, ![1024]⟩
abbrev S1x1024 : Shape := ⟨2, ![1, 1024]⟩
abbrev S4096x32 : Shape := ⟨2, ![4096, 32]⟩
abbrev S4096x1024 : Shape := ⟨2, ![4096, 1024]⟩
abbrev S4096 : Shape := ⟨1, ![4096]⟩
abbrev S4096x1 : Shape := ⟨2, ![4096, 1]⟩
abbrev S8x3x32 : Shape := ⟨3, ![8, 3, 32]⟩
abbrev S8x509x32 : Shape := ⟨3, ![8, 509, 32]⟩
abbrev S8x2x32 : Shape := ⟨3, ![8, 2, 32]⟩
abbrev S8x510x32 : Shape := ⟨3, ![8, 510, 32]⟩
abbrev S8x1x32 : Shape := ⟨3, ![8, 1, 32]⟩
abbrev S8x511x32 : Shape := ⟨3, ![8, 511, 32]⟩
abbrev S8x512x224 : Shape := ⟨3, ![8, 512, 224]⟩
abbrev S4096x224 : Shape := ⟨2, ![4096, 224]⟩
abbrev S8x512x30 : Shape := ⟨3, ![8, 512, 30]⟩
abbrev S4096x30 : Shape := ⟨2, ![4096, 30]⟩
abbrev S32x4096 : Shape := ⟨2, ![32, 4096]⟩
abbrev S4096x512 : Shape := ⟨2, ![4096, 512]⟩
abbrev S32x512 : Shape := ⟨2, ![32, 512]⟩

abbrev nBuf : Space → Nat
  | .hbm => 61
  | .vmem => 37
  | .smem => 0
  | _ => 0

abbrev bufTy : (tb : Table) → Fin (tcTables nBuf tb) → BufTy
  | .hbm, ⟨0, _⟩ => ⟨S256x512, .f32⟩
  | .hbm, ⟨1, _⟩ => ⟨S5x1x3, .f32⟩
  | .hbm, ⟨2, _⟩ => ⟨S5, .f32⟩
  | .hbm, ⟨3, _⟩ => ⟨S10x5x5, .f32⟩
  | .hbm, ⟨4, _⟩ => ⟨S10, .f32⟩
  | .hbm, ⟨5, _⟩ => ⟨S64x10x7, .f32⟩
  | .hbm, ⟨6, _⟩ => ⟨S64, .f32⟩
  | .hbm, ⟨7, _⟩ => ⟨S5x32x7, .f32⟩
  | .hbm, ⟨8, _⟩ => ⟨S5, .f32⟩
  | .hbm, ⟨9, _⟩ => ⟨S10x5x5, .f32⟩
  | .hbm, ⟨10, _⟩ => ⟨S10, .f32⟩
  | .hbm, ⟨11, _⟩ => ⟨S32x10x3, .f32⟩
  | .hbm, ⟨12, _⟩ => ⟨S32, .f32⟩
  | .hbm, ⟨13, _⟩ => ⟨S5x32x7, .f32⟩
  | .hbm, ⟨14, _⟩ => ⟨S5, .f32⟩
  | .hbm, ⟨15, _⟩ => ⟨S10x5x5, .f32⟩
  | .hbm, ⟨16, _⟩ => ⟨S10, .f32⟩
  | .hbm, ⟨17, _⟩ => ⟨S32x10x3, .f32⟩
  | .hbm, ⟨18, _⟩ => ⟨S32, .f32⟩
  | .hbm, ⟨19, _⟩ => ⟨S512x16384, .f32⟩
  | .hbm, ⟨20, _⟩ => ⟨S512, .f32⟩
  | .hbm, ⟨21, _⟩ => ⟨S32x1024, .f32⟩
  | .hbm, ⟨22, _⟩ => ⟨S256x512x1, .f32⟩
  | .hbm, ⟨23, _⟩ => ⟨S3x1x5, .f32⟩
  | .hbm, ⟨24, _⟩ => ⟨S3x5, .f32⟩
  | .hbm, ⟨25, _⟩ => ⟨S1x1x5, .f32⟩
  | .hbm, ⟨26, _⟩ => ⟨S5x5x10, .f32⟩
  | .hbm, ⟨27, _⟩ => ⟨S25x10, .f32⟩
  | .hbm, ⟨28, _⟩ => ⟨S1x1x10, .f32⟩
  | .hbm, ⟨29, _⟩ => ⟨S7x10x64, .f32⟩
  | .hbm, ⟨30, _⟩ => ⟨S70x64, .f32⟩
  | .hbm, ⟨31, _⟩ => ⟨S1x1x64, .f32⟩
  | .hbm, ⟨32, _⟩ => ⟨S7x32x5, .f32⟩
  | .hbm, ⟨33, _⟩ => ⟨S224x5, .f32⟩
  | .hbm, ⟨34, _⟩ => ⟨S1x1x5, .f32⟩
  | .hbm, ⟨35, _⟩ => ⟨S5x5x10, .f32⟩
  | .hbm, ⟨36, _⟩ => ⟨S25x10, .f32⟩
  | .hbm, ⟨37, _⟩ => ⟨S1x1x10, .f32⟩
  | .hbm, ⟨38, _⟩ => ⟨S3x10x32, .f32⟩
  | .hbm, ⟨39, _⟩ => ⟨S30x32, .f32⟩
  | .hbm, ⟨40, _⟩ => ⟨S1x1x32, .f32⟩
  | .hbm, ⟨41, _⟩ => ⟨S7x32x5, .f32⟩
  | .hbm, ⟨42, _⟩ => ⟨S224x5, .f32⟩
  | .hbm, ⟨43, _⟩ => ⟨S1x1x5, .f32⟩
  | .hbm, ⟨44, _⟩ => ⟨S5x5x10, .f32⟩
  | .hbm, ⟨45, _⟩ => ⟨S25x10, .f32⟩
  | .hbm, ⟨46, _⟩ => ⟨S1x1x10, .f32⟩
  | .hbm, ⟨47, _⟩ => ⟨S3x10x32, .f32⟩
  | .hbm, ⟨48, _⟩ => ⟨S30x32, .f32⟩
  | .hbm, ⟨49, _⟩ => ⟨S1x1x32, .f32⟩
  | .hbm, ⟨50, _⟩ => ⟨S1024x32, .f32⟩
  | .hbm, ⟨51, _⟩ => ⟨S256x512x32, .f32⟩
  | .hbm, ⟨52, _⟩ => ⟨S256x512x32, .f32⟩
  | .hbm, ⟨53, _⟩ => ⟨S512x32x512, .f32⟩
  | .hbm, ⟨54, _⟩ => ⟨S512x32x512, .f32⟩
  | .hbm, ⟨55, _⟩ => ⟨S16384x512, .f32⟩
  | .hbm, ⟨56, _⟩ => ⟨S256x16384, .f32⟩
  | .hbm, ⟨57, _⟩ => ⟨S256x16384, .f32⟩
  | .hbm, ⟨58, _⟩ => ⟨S1x512, .f32⟩
  | .hbm, ⟨59, _⟩ => ⟨S256x512, .f32⟩
  | .hbm, ⟨60, _⟩ => ⟨S256x512, .f32⟩
  | .local _ .vmem, ⟨0, _⟩ => ⟨S8x512x1, .f32⟩
  | .local _ .vmem, ⟨1, _⟩ => ⟨S8x512x1, .f32⟩
  | .local _ .vmem, ⟨2, _⟩ => ⟨S3x5, .f32⟩
  | .local _ .vmem, ⟨3, _⟩ => ⟨S1x1x5, .f32⟩
  | .local _ .vmem, ⟨4, _⟩ => ⟨S25x10, .f32⟩
  | .local _ .vmem, ⟨5, _⟩ => ⟨S1x1x10, .f32⟩
  | .local _ .vmem, ⟨6, _⟩ => ⟨S70x64, .f32⟩
  | .local _ .vmem, ⟨7, _⟩ => ⟨S1x1x64, .f32⟩
  | .local _ .vmem, ⟨8, _⟩ => ⟨S224x5, .f32⟩
  | .local _ .vmem, ⟨9, _⟩ => ⟨S1x1x5, .f32⟩
  | .local _ .vmem, ⟨10, _⟩ => ⟨S25x10, .f32⟩
  | .local _ .vmem, ⟨11, _⟩ => ⟨S1x1x10, .f32⟩
  | .local _ .vmem, ⟨12, _⟩ => ⟨S30x32, .f32⟩
  | .local _ .vmem, ⟨13, _⟩ => ⟨S1x1x32, .f32⟩
  | .local _ .vmem, ⟨14, _⟩ => ⟨S224x5, .f32⟩
  | .local _ .vmem, ⟨15, _⟩ => ⟨S1x1x5, .f32⟩
  | .local _ .vmem, ⟨16, _⟩ => ⟨S25x10, .f32⟩
  | .local _ .vmem, ⟨17, _⟩ => ⟨S1x1x10, .f32⟩
  | .local _ .vmem, ⟨18, _⟩ => ⟨S30x32, .f32⟩
  | .local _ .vmem, ⟨19, _⟩ => ⟨S1x1x32, .f32⟩
  | .local _ .vmem, ⟨20, _⟩ => ⟨S32x1024, .f32⟩
  | .local _ .vmem, ⟨21, _⟩ => ⟨S1024x32, .f32⟩
  | .local _ .vmem, ⟨22, _⟩ => ⟨S8x512x32, .f32⟩
  | .local _ .vmem, ⟨23, _⟩ => ⟨S8x512x32, .f32⟩
  | .local _ .vmem, ⟨24, _⟩ => ⟨S8x512x32, .f32⟩
  | .local _ .vmem, ⟨25, _⟩ => ⟨S8x512x32, .f32⟩
  | .local _ .vmem, ⟨26, _⟩ => ⟨S32x4096, .f32⟩
  | .local _ .vmem, ⟨27, _⟩ => ⟨S32x4096, .f32⟩
  | .local _ .vmem, ⟨28, _⟩ => ⟨S32x4096, .f32⟩
  | .local _ .vmem, ⟨29, _⟩ => ⟨S32x4096, .f32⟩
  | .local _ .vmem, ⟨30, _⟩ => ⟨S4096x512, .f32⟩
  | .local _ .vmem, ⟨31, _⟩ => ⟨S4096x512, .f32⟩
  | .local _ .vmem, ⟨32, _⟩ => ⟨S1x512, .f32⟩
  | .local _ .vmem, ⟨33, _⟩ => ⟨S32x512, .f32⟩
  | .local _ .vmem, ⟨34, _⟩ => ⟨S32x512, .f32⟩
  | .local _ .vmem, ⟨35, _⟩ => ⟨S32x512, .f32⟩
  | .local _ .vmem, ⟨36, _⟩ => ⟨S32x512, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_v15 : Ref sig .tc := ⟨.hbm, 37, rfl⟩
abbrev main_call0_v16 : Ref sig .tc := ⟨.hbm, 38, rfl⟩
abbrev main_call0_v17 : Ref sig .tc := ⟨.hbm, 39, rfl⟩
abbrev main_call0_v18 : Ref sig .tc := ⟨.hbm, 40, rfl⟩
abbrev main_call0_v19 : Ref sig .tc := ⟨.hbm, 41, rfl⟩
abbrev main_call0_v20 : Ref sig .tc := ⟨.hbm, 42, rfl⟩
abbrev main_call0_v21 : Ref sig .tc := ⟨.hbm, 43, rfl⟩
abbrev main_call0_v22 : Ref sig .tc := ⟨.hbm, 44, rfl⟩
abbrev main_call0_v23 : Ref sig .tc := ⟨.hbm, 45, rfl⟩
abbrev main_call0_v24 : Ref sig .tc := ⟨.hbm, 46, rfl⟩
abbrev main_call0_v25 : Ref sig .tc := ⟨.hbm, 47, rfl⟩
abbrev main_call0_v26 : Ref sig .tc := ⟨.hbm, 48, rfl⟩
abbrev main_call0_v27 : Ref sig .tc := ⟨.hbm, 49, rfl⟩
abbrev main_call0_v28 : Ref sig .tc := ⟨.hbm, 50, rfl⟩
abbrev main_call0_v29_0 : Ref sig .tc := ⟨.hbm, 51, rfl⟩
abbrev main_call0_v29_1 : Ref sig .tc := ⟨.hbm, 52, rfl⟩
abbrev main_call0_v30 : Ref sig .tc := ⟨.hbm, 53, rfl⟩
abbrev main_call0_v31 : Ref sig .tc := ⟨.hbm, 54, rfl⟩
abbrev main_call0_v32 : Ref sig .tc := ⟨.hbm, 55, rfl⟩
abbrev main_call0_v33 : Ref sig .tc := ⟨.hbm, 56, rfl⟩
abbrev main_call0_v34 : Ref sig .tc := ⟨.hbm, 57, rfl⟩
abbrev main_call0_v35 : Ref sig .tc := ⟨.hbm, 58, rfl⟩
abbrev main_v0_0 : Ref sig .tc := ⟨.hbm, 59, rfl⟩
abbrev main_v0_1 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg21_1 : Ref sig .tc := ⟨.vmem, 23, rfl⟩
abbrev cc0_stg22_0 : Ref sig .tc := ⟨.vmem, 24, rfl⟩
abbrev cc0_stg22_1 : Ref sig .tc := ⟨.vmem, 25, rfl⟩
abbrev cc1_stg0_0 : Ref sig .tc := ⟨.vmem, 26, rfl⟩
abbrev cc1_stg0_1 : Ref sig .tc := ⟨.vmem, 27, rfl⟩
abbrev cc1_stg1_0 : Ref sig .tc := ⟨.vmem, 28, rfl⟩
abbrev cc1_stg1_1 : Ref sig .tc := ⟨.vmem, 29, rfl⟩
abbrev cc1_stg2_0 : Ref sig .tc := ⟨.vmem, 30, rfl⟩
abbrev cc1_stg2_1 : Ref sig .tc := ⟨.vmem, 31, rfl⟩
abbrev cc1_stg3_0 : Ref sig .tc := ⟨.vmem, 32, rfl⟩
abbrev cc1_stg4_0 : Ref sig .tc := ⟨.vmem, 33, rfl⟩
abbrev cc1_stg4_1 : Ref sig .tc := ⟨.vmem, 34, rfl⟩
abbrev cc1_stg5_0 : Ref sig .tc := ⟨.vmem, 35, rfl⟩
abbrev cc1_stg5_1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem21_1 : DmaSem sig := 23
abbrev cc0_sem22_0 : DmaSem sig := 24
abbrev cc0_sem22_1 : DmaSem sig := 25
abbrev cc1_sem0_0 : DmaSem sig := 26
abbrev cc1_sem0_1 : DmaSem sig := 27
abbrev cc1_sem1_0 : DmaSem sig := 28
abbrev cc1_sem1_1 : DmaSem sig := 29
abbrev cc1_sem2_0 : DmaSem sig := 30
abbrev cc1_sem2_1 : DmaSem sig := 31
abbrev cc1_sem3_0 : DmaSem sig := 32
abbrev cc1_sem4_0 : DmaSem sig := 33
abbrev cc1_sem4_1 : DmaSem sig := 34
abbrev cc1_sem5_0 : DmaSem sig := 35
abbrev cc1_sem5_1 : DmaSem sig := 36

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x5 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x5 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S25x10 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S70x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S224x5 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x5 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S25x10 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1x10 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S30x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S224x5 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1x5 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S25x10 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1x10 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S30x32 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1x32 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S32x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1024x32 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S8x512x32 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S8x512x32 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev grid1 : Pipeline.Grid := ⟨2, ![8, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S32x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S32x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S4096x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S32x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S32x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]
-- ==== ReferenceIdeal.lean ====
abbrev S256x512 : Shape := ⟨2, ![256, 512]⟩
abbrev S5x1x3 : Shape := ⟨3, ![5, 1, 3]⟩
abbrev S5 : Shape := ⟨1, ![5]⟩
abbrev S10x5x5 : Shape := ⟨3, ![10, 5, 5]⟩
abbrev S10 : Shape := ⟨1, ![10]⟩
abbrev S64x10x7 : Shape := ⟨3, ![64, 10, 7]⟩
abbrev S64 : Shape := ⟨1, ![64]⟩
abbrev S5x32x7 : Shape := ⟨3, ![5, 32, 7]⟩
abbrev S32x10x3 : Shape := ⟨3, ![32, 10, 3]⟩
abbrev S32 : Shape := ⟨1, ![32]⟩
abbrev S512x16384 : Shape := ⟨2, ![512, 16384]⟩
abbrev S512 : Shape := ⟨1, ![512]⟩
abbrev S32x1024 : Shape := ⟨2, ![32, 1024]⟩
abbrev S256x1x512 : Shape := ⟨3, ![256, 1, 512]⟩
abbrev S_ : Shape := ⟨0, ![]⟩
abbrev S256x1x514 : Shape := ⟨3, ![256, 1, 514]⟩
abbrev S5x1x1 : Shape := ⟨3, ![5, 1, 1]⟩
abbrev S5x1 : Shape := ⟨2, ![5, 1]⟩
abbrev S5x256x512 : Shape := ⟨3, ![5, 256, 512]⟩
abbrev S256x5x512 : Shape := ⟨3, ![256, 5, 512]⟩
abbrev S1x5x1 : Shape := ⟨3, ![1, 5, 1]⟩
abbrev S256x5x516 : Shape := ⟨3, ![256, 5, 516]⟩
abbrev S10x5x1 : Shape := ⟨3, ![10, 5, 1]⟩
abbrev S10x5 : Shape := ⟨2, ![10, 5]⟩
abbrev S10x256x512 : Shape := ⟨3, ![10, 256, 512]⟩
abbrev S256x10x512 : Shape := ⟨3, ![256, 10, 512]⟩
abbrev S1x10x1 : Shape := ⟨3, ![1, 10, 1]⟩
abbrev S256x10x518 : Shape := ⟨3, ![256, 10, 518]⟩
abbrev S64x10x1 : Shape := ⟨3, ![64, 10, 1]⟩
abbrev S64x10 : Shape := ⟨2, ![64, 10]⟩
abbrev S64x256x512 : Shape := ⟨3, ![64, 256, 512]⟩
abbrev S256x64x512 : Shape := ⟨3, ![256, 64, 512]⟩
abbrev S1x64x1 : Shape := ⟨3, ![1, 64, 1]⟩
abbrev S256x32x512 : Shape := ⟨3, ![256, 32, 512]⟩
abbrev S256x512x32 : Shape := ⟨3, ![256, 512, 32]⟩
abbrev S256x512x1 : Shape := ⟨3, ![256, 512, 1]⟩
abbrev S256x512x1024 : Shape := ⟨3, ![256, 512, 1024]⟩
abbrev S1024 : Shape := ⟨1, ![1024]⟩
abbrev S1x1x1024 : Shape := ⟨3, ![1, 1, 1024]⟩
abbrev S32x256x512 : Shape := ⟨3, ![32, 256, 512]⟩
abbrev S256x32x518 : Shape := ⟨3, ![256, 32, 518]⟩
abbrev S5x32x1 : Shape := ⟨3, ![5, 32, 1]⟩
abbrev S5x32 : Shape := ⟨2, ![5, 32]⟩
abbrev S256x10x514 : Shape := ⟨3, ![256, 10, 514]⟩
abbrev S32x10x1 : Shape := ⟨3, ![32, 10, 1]⟩
abbrev S32x10 : Shape := ⟨2, ![32, 10]⟩
abbrev S1x32x1 : Shape := ⟨3, ![1, 32, 1]⟩
abbrev S256x16384 : Shape := ⟨2, ![256, 16384]⟩
abbrev S16384x512 : Shape := ⟨2, ![16384, 512]⟩
abbrev S1x512 : Shape := ⟨2, ![1, 512]⟩

abbrev nBuf : Space → Nat
  | .hbm => 453
  | .vmem => 0
  | .smem => 0
  | _ => 0

abbrev hbmTy0_0 (i : Nat) : BufTy := match i % 128 with
  | 0 => ⟨S256x512, .f32⟩
  | 1 => ⟨S5x1x3, .f32⟩
  | 2 => ⟨S5, .f32⟩
  | 3 => ⟨S10x5x5, .f32⟩
  | 4 => ⟨S10, .f32⟩
  | 5 => ⟨S64x10x7, .f32⟩
  | 6 => ⟨S64, .f32⟩
  | 7 => ⟨S5x32x7, .f32⟩
  | 8 => ⟨S5, .f32⟩
  | 9 => ⟨S10x5x5, .f32⟩
  | 10 => ⟨S10, .f32⟩
  | 11 => ⟨S32x10x3, .f32⟩
  | 12 => ⟨S32, .f32⟩
  | 13 => ⟨S5x32x7, .f32⟩
  | 14 => ⟨S5, .f32⟩
  | 15 => ⟨S10x5x5, .f32⟩
  | 16 => ⟨S10, .f32⟩
  | 17 => ⟨S32x10x3, .f32⟩
  | 18 => ⟨S32, .f32⟩
  | 19 => ⟨S512x16384, .f32⟩
  | 20 => ⟨S512, .f32⟩
  | 21 => ⟨S32x1024, .f32⟩
  | 22 => ⟨S256x1x512, .f32⟩
  | 23 => ⟨S_, .i32⟩
  | 24 => ⟨S_, .f32⟩
  | 25 => ⟨S256x1x514, .f32⟩
  | 26 => ⟨S256x1x512, .f32⟩
  | 27 => ⟨S5x1x1, .f32⟩
  | 28 => ⟨S5x1, .f32⟩
  | 29 => ⟨S5x256x512, .f32⟩
  | 30 => ⟨S256x5x512, .f32⟩
  | 31 => ⟨S256x1x512, .f32⟩
  | 32 => ⟨S5x1x1, .f32⟩
  | 33 => ⟨S5x1, .f32⟩
  | 34 => ⟨S5x256x512, .f32⟩
  | 35 => ⟨S256x5x512, .f32⟩
  | 36 => ⟨S256x5x512, .f32⟩
  | 37 => ⟨S256x1x512, .f32⟩
  | 38 => ⟨S5x1x1, .f32⟩
  | 39 => ⟨S5x1, .f32⟩
  | 40 => ⟨S5x256x512, .f32⟩
  | 41 => ⟨S256x5x512, .f32⟩
  | 42 => ⟨S256x5x512, .f32⟩
  | 43 => ⟨S1x5x1, .f32⟩
  | 44 => ⟨S256x5x512, .f32⟩
  | 45 => ⟨S256x5x512, .f32⟩
  | 46 => ⟨S_, .f32⟩
  | 47 => ⟨S256x5x512, .f32⟩
  | 48 => ⟨S256x5x512, .f32⟩
  | 49 => ⟨S_, .i32⟩
  | 50 => ⟨S_, .f32⟩
  | 51 => ⟨S256x5x516, .f32⟩
  | 52 => ⟨S256x5x512, .f32⟩
  | 53 => ⟨S10x5x1, .f32⟩
  | 54 => ⟨S10x5, .f32⟩
  | 55 => ⟨S10x256x512, .f32⟩
  | 56 => ⟨S256x10x512, .f32⟩
  | 57 => ⟨S256x5x512, .f32⟩
  | 58 => ⟨S10x5x1, .f32⟩
  | 59 => ⟨S10x5, .f32⟩
  | 60 => ⟨S10x256x512, .f32⟩
  | 61 => ⟨S256x10x512, .f32⟩
  | 62 => ⟨S256x10x512, .f32⟩
  | 63 => ⟨S256x5x512, .f32⟩
  | 64 => ⟨S10x5x1, .f32⟩
  | 65 => ⟨S10x5, .f32⟩
  | 66 => ⟨S10x256x512, .f32⟩
  | 67 => ⟨S256x10x512, .f32⟩
  | 68 => ⟨S256x10x512, .f32⟩
  | 69 => ⟨S256x5x512, .f32⟩
  | 70 => ⟨S10x5x1, .f32⟩
  | 71 => ⟨S10x5, .f32⟩
  | 72 => ⟨S10x256x512, .f32⟩
  | 73 => ⟨S256x10x512, .f32⟩
  | 74 => ⟨S256x10x512, .f32⟩
  | 75 => ⟨S256x5x512, .f32⟩
  | 76 => ⟨S10x5x1, .f32⟩
  | 77 => ⟨S10x5, .f32⟩
  | 78 => ⟨S10x256x512, .f32⟩
  | 79 => ⟨S256x10x512, .f32⟩
  | 80 => ⟨S256x10x512, .f32⟩
  | 81 => ⟨S1x10x1, .f32⟩
  | 82 => ⟨S256x10x512, .f32⟩
  | 83 => ⟨S256x10x512, .f32⟩
  | 84 => ⟨S_, .f32⟩
  | 85 => ⟨S256x10x512, .f32⟩
  | 86 => ⟨S256x10x512, .f32⟩
  | 87 => ⟨S_, .i32⟩
  | 88 => ⟨S_, .f32⟩
  | 89 => ⟨S256x10x518, .f32⟩
  | 90 => ⟨S256x10x512, .f32⟩
  | 91 => ⟨S64x10x1, .f32⟩
  | 92 => ⟨S64x10, .f32⟩
  | 93 => ⟨S64x256x512, .f32⟩
  | 94 => ⟨S256x64x512, .f32⟩
  | 95 => ⟨S256x10x512, .f32⟩
  | 96 => ⟨S64x10x1, .f32⟩
  | 97 => ⟨S64x10, .f32⟩
  | 98 => ⟨S64x256x512, .f32⟩
  | 99 => ⟨S256x64x512, .f32⟩
  | 100 => ⟨S256x64x512, .f32⟩
  | 101 => ⟨S256x10x512, .f32⟩
  | 102 => ⟨S64x10x1, .f32⟩
  | 103 => ⟨S64x10, .f32⟩
  | 104 => ⟨S64x256x512, .f32⟩
  | 105 => ⟨S256x64x512, .f32⟩
  | 106 => ⟨S256x64x512, .f32⟩
  | 107 => ⟨S256x10x512, .f32⟩
  | 108 => ⟨S64x10x1, .f32⟩
  | 109 => ⟨S64x10, .f32⟩
  | 110 => ⟨S64x256x512, .f32⟩
  | 111 => ⟨S256x64x512, .f32⟩
  | 112 => ⟨S256x64x512, .f32⟩
  | 113 => ⟨S256x10x512, .f32⟩
  | 114 => ⟨S64x10x1, .f32⟩
  | 115 => ⟨S64x10, .f32⟩
  | 116 => ⟨S64x256x512, .f32⟩
  | 117 => ⟨S256x64x512, .f32⟩
  | 118 => ⟨S256x64x512, .f32⟩
  | 119 => ⟨S256x10x512, .f32⟩
  | 120 => ⟨S64x10x1, .f32⟩
  | 121 => ⟨S64x10, .f32⟩
  | 122 => ⟨S64x256x512, .f32⟩
  | 123 => ⟨S256x64x512, .f32⟩
  | 124 => ⟨S256x64x512, .f32⟩
  | 125 => ⟨S256x10x512, .f32⟩
  | 126 => ⟨S64x10x1, .f32⟩
  | 127 => ⟨S64x10, .f32⟩
  | _ => ⟨S256x512, .f32⟩

abbrev hbmTy0_1 (i : Nat) : BufTy := match i % 128 with
  | 0 => ⟨S64x256x512, .f32⟩
  | 1 => ⟨S256x64x512, .f32⟩
  | 2 => ⟨S256x64x512, .f32⟩
  | 3 => ⟨S1x64x1, .f32⟩
  | 4 => ⟨S256x64x512, .f32⟩
  | 5 => ⟨S256x64x512, .f32⟩
  | 6 => ⟨S256x64x512, .f32⟩
  | 7 => ⟨S256x32x512, .f32⟩
  | 8 => ⟨S256x32x512, .f32⟩
  | 9 => ⟨S256x512x32, .f32⟩
  | 10 => ⟨S256x512x32, .f32⟩
  | 11 => ⟨S_, .f32⟩
  | 12 => ⟨S256x512, .f32⟩
  | 13 => ⟨S256x512x1, .f32⟩
  | 14 => ⟨S256x512x1024, .f32⟩
  | 15 => ⟨S_, .f32⟩
  | 16 => ⟨S256x512x1024, .f32⟩
  | 17 => ⟨S256x512x1024, .f32⟩
  | 18 => ⟨S256x512x1024, .f32⟩
  | 19 => ⟨S256x512x1024, .f32⟩
  | 20 => ⟨S32x1024, .f32⟩
  | 21 => ⟨S_, .f32⟩
  | 22 => ⟨S1024, .f32⟩
  | 23 => ⟨S1x1x1024, .f32⟩
  | 24 => ⟨S256x512x1024, .f32⟩
  | 25 => ⟨S256x512x1024, .f32⟩
  | 26 => ⟨S256x512x1024, .f32⟩
  | 27 => ⟨S_, .f32⟩
  | 28 => ⟨S256x512x1024, .f32⟩
  | 29 => ⟨S256x512x1024, .f32⟩
  | 30 => ⟨S_, .f32⟩
  | 31 => ⟨S256x512, .f32⟩
  | 32 => ⟨S_, .f32⟩
  | 33 => ⟨S256x512, .f32⟩
  | 34 => ⟨S256x512, .f32⟩
  | 35 => ⟨S256x512x1, .f32⟩
  | 36 => ⟨S256x512x1024, .f32⟩
  | 37 => ⟨S256x512x1024, .f32⟩
  | 38 => ⟨S256x512x1024, .f32⟩
  | 39 => ⟨S_, .f32⟩
  | 40 => ⟨S256x512, .f32⟩
  | 41 => ⟨S256x512x1, .f32⟩
  | 42 => ⟨S256x512x1024, .f32⟩
  | 43 => ⟨S256x512x1024, .f32⟩
  | 44 => ⟨S32x256x512, .f32⟩
  | 45 => ⟨S256x32x512, .f32⟩
  | 46 => ⟨S256x512x32, .f32⟩
  | 47 => ⟨S256x512x32, .f32⟩
  | 48 => ⟨S_, .f32⟩
  | 49 => ⟨S256x512, .f32⟩
  | 50 => ⟨S256x512x1, .f32⟩
  | 51 => ⟨S256x512x1024, .f32⟩
  | 52 => ⟨S_, .f32⟩
  | 53 => ⟨S256x512x1024, .f32⟩
  | 54 => ⟨S256x512x1024, .f32⟩
  | 55 => ⟨S256x512x1024, .f32⟩
  | 56 => ⟨S256x512x1024, .f32⟩
  | 57 => ⟨S32x1024, .f32⟩
  | 58 => ⟨S_, .f32⟩
  | 59 => ⟨S1024, .f32⟩
  | 60 => ⟨S1x1x1024, .f32⟩
  | 61 => ⟨S256x512x1024, .f32⟩
  | 62 => ⟨S256x512x1024, .f32⟩
  | 63 => ⟨S256x512x1024, .f32⟩
  | 64 => ⟨S_, .f32⟩
  | 65 => ⟨S256x512x1024, .f32⟩
  | 66 => ⟨S256x512x1024, .f32⟩
  | 67 => ⟨S_, .f32⟩
  | 68 => ⟨S256x512, .f32⟩
  | 69 => ⟨S_, .f32⟩
  | 70 => ⟨S256x512, .f32⟩
  | 71 => ⟨S256x512, .f32⟩
  | 72 => ⟨S256x512x1, .f32⟩
  | 73 => ⟨S256x512x1024, .f32⟩
  | 74 => ⟨S256x512x1024, .f32⟩
  | 75 => ⟨S256x512x1024, .f32⟩
  | 76 => ⟨S_, .f32⟩
  | 77 => ⟨S256x512, .f32⟩
  | 78 => ⟨S256x512x1, .f32⟩
  | 79 => ⟨S256x512x1024, .f32⟩
  | 80 => ⟨S256x512x1024, .f32⟩
  | 81 => ⟨S32x256x512, .f32⟩
  | 82 => ⟨S256x32x512, .f32⟩
  | 83 => ⟨S_, .i32⟩
  | 84 => ⟨S_, .f32⟩
  | 85 => ⟨S256x32x518, .f32⟩
  | 86 => ⟨S256x32x512, .f32⟩
  | 87 => ⟨S5x32x1, .f32⟩
  | 88 => ⟨S5x32, .f32⟩
  | 89 => ⟨S5x256x512, .f32⟩
  | 90 => ⟨S256x5x512, .f32⟩
  | 91 => ⟨S256x32x512, .f32⟩
  | 92 => ⟨S5x32x1, .f32⟩
  | 93 => ⟨S5x32, .f32⟩
  | 94 => ⟨S5x256x512, .f32⟩
  | 95 => ⟨S256x5x512, .f32⟩
  | 96 => ⟨S256x5x512, .f32⟩
  | 97 => ⟨S256x32x512, .f32⟩
  | 98 => ⟨S5x32x1, .f32⟩
  | 99 => ⟨S5x32, .f32⟩
  | 100 => ⟨S5x256x512, .f32⟩
  | 101 => ⟨S256x5x512, .f32⟩
  | 102 => ⟨S256x5x512, .f32⟩
  | 103 => ⟨S256x32x512, .f32⟩
  | 104 => ⟨S5x32x1, .f32⟩
  | 105 => ⟨S5x32, .f32⟩
  | 106 => ⟨S5x256x512, .f32⟩
  | 107 => ⟨S256x5x512, .f32⟩
  | 108 => ⟨S256x5x512, .f32⟩
  | 109 => ⟨S256x32x512, .f32⟩
  | 110 => ⟨S5x32x1, .f32⟩
  | 111 => ⟨S5x32, .f32⟩
  | 112 => ⟨S5x256x512, .f32⟩
  | 113 => ⟨S256x5x512, .f32⟩
  | 114 => ⟨S256x5x512, .f32⟩
  | 115 => ⟨S256x32x512, .f32⟩
  | 116 => ⟨S5x32x1, .f32⟩
  | 117 => ⟨S5x32, .f32⟩
  | 118 => ⟨S5x256x512, .f32⟩
  | 119 => ⟨S256x5x512, .f32⟩
  | 120 => ⟨S256x5x512, .f32⟩
  | 121 => ⟨S256x32x512, .f32⟩
  | 122 => ⟨S5x32x1, .f32⟩
  | 123 => ⟨S5x32, .f32⟩
  | 124 => ⟨S5x256x512, .f32⟩
  | 125 => ⟨S256x5x512, .f32⟩
  | 126 => ⟨S256x5x512, .f32⟩
  | 127 => ⟨S1x5x1, .f32⟩
  | _ => ⟨S256x512, .f32⟩

abbrev hbmTy0_2 (i : Nat) : BufTy := match i % 128 with
  | 0 => ⟨S256x5x512, .f32⟩
  | 1 => ⟨S256x5x512, .f32⟩
  | 2 => ⟨S_, .f32⟩
  | 3 => ⟨S256x5x512, .f32⟩
  | 4 => ⟨S256x5x512, .f32⟩
  | 5 => ⟨S_, .i32⟩
  | 6 => ⟨S_, .f32⟩
  | 7 => ⟨S256x5x516, .f32⟩
  | 8 => ⟨S256x5x512, .f32⟩
  | 9 => ⟨S10x5x1, .f32⟩
  | 10 => ⟨S10x5, .f32⟩
  | 11 => ⟨S10x256x512, .f32⟩
  | 12 => ⟨S256x10x512, .f32⟩
  | 13 => ⟨S256x5x512, .f32⟩
  | 14 => ⟨S10x5x1, .f32⟩
  | 15 => ⟨S10x5, .f32⟩
  | 16 => ⟨S10x256x512, .f32⟩
  | 17 => ⟨S256x10x512, .f32⟩
  | 18 => ⟨S256x10x512, .f32⟩
  | 19 => ⟨S256x5x512, .f32⟩
  | 20 => ⟨S10x5x1, .f32⟩
  | 21 => ⟨S10x5, .f32⟩
  | 22 => ⟨S10x256x512, .f32⟩
  | 23 => ⟨S256x10x512, .f32⟩
  | 24 => ⟨S256x10x512, .f32⟩
  | 25 => ⟨S256x5x512, .f32⟩
  | 26 => ⟨S10x5x1, .f32⟩
  | 27 => ⟨S10x5, .f32⟩
  | 28 => ⟨S10x256x512, .f32⟩
  | 29 => ⟨S256x10x512, .f32⟩
  | 30 => ⟨S256x10x512, .f32⟩
  | 31 => ⟨S256x5x512, .f32⟩
  | 32 => ⟨S10x5x1, .f32⟩
  | 33 => ⟨S10x5, .f32⟩
  | 34 => ⟨S10x256x512, .f32⟩
  | 35 => ⟨S256x10x512, .f32⟩
  | 36 => ⟨S256x10x512, .f32⟩
  | 37 => ⟨S1x10x1, .f32⟩
  | 38 => ⟨S256x10x512, .f32⟩
  | 39 => ⟨S256x10x512, .f32⟩
  | 40 => ⟨S_, .f32⟩
  | 41 => ⟨S256x10x512, .f32⟩
  | 42 => ⟨S256x10x512, .f32⟩
  | 43 => ⟨S_, .i32⟩
  | 44 => ⟨S_, .f32⟩
  | 45 => ⟨S256x10x514, .f32⟩
  | 46 => ⟨S256x10x512, .f32⟩
  | 47 => ⟨S32x10x1, .f32⟩
  | 48 => ⟨S32x10, .f32⟩
  | 49 => ⟨S32x256x512, .f32⟩
  | 50 => ⟨S256x32x512, .f32⟩
  | 51 => ⟨S256x10x512, .f32⟩
  | 52 => ⟨S32x10x1, .f32⟩
  | 53 => ⟨S32x10, .f32⟩
  | 54 => ⟨S32x256x512, .f32⟩
  | 55 => ⟨S256x32x512, .f32⟩
  | 56 => ⟨S256x32x512, .f32⟩
  | 57 => ⟨S256x10x512, .f32⟩
  | 58 => ⟨S32x10x1, .f32⟩
  | 59 => ⟨S32x10, .f32⟩
  | 60 => ⟨S32x256x512, .f32⟩
  | 61 => ⟨S256x32x512, .f32⟩
  | 62 => ⟨S256x32x512, .f32⟩
  | 63 => ⟨S1x32x1, .f32⟩
  | 64 => ⟨S256x32x512, .f32⟩
  | 65 => ⟨S256x32x512, .f32⟩
  | 66 => ⟨S_, .f32⟩
  | 67 => ⟨S256x32x512, .f32⟩
  | 68 => ⟨S256x32x512, .f32⟩
  | 69 => ⟨S256x16384, .f32⟩
  | 70 => ⟨S16384x512, .f32⟩
  | 71 => ⟨S256x512, .f32⟩
  | 72 => ⟨S1x512, .f32⟩
  | 73 => ⟨S256x512, .f32⟩
  | 74 => ⟨S256x512, .f32⟩
  | 75 => ⟨S256x512, .f32⟩
  | 76 => ⟨S_, .i32⟩
  | 77 => ⟨S_, .f32⟩
  | 78 => ⟨S256x32x518, .f32⟩
  | 79 => ⟨S256x32x512, .f32⟩
  | 80 => ⟨S5x32x1, .f32⟩
  | 81 => ⟨S5x32, .f32⟩
  | 82 => ⟨S5x256x512, .f32⟩
  | 83 => ⟨S256x5x512, .f32⟩
  | 84 => ⟨S256x32x512, .f32⟩
  | 85 => ⟨S5x32x1, .f32⟩
  | 86 => ⟨S5x32, .f32⟩
  | 87 => ⟨S5x256x512, .f32⟩
  | 88 => ⟨S256x5x512, .f32⟩
  | 89 => ⟨S256x5x512, .f32⟩
  | 90 => ⟨S256x32x512, .f32⟩
  | 91 => ⟨S5x32x1, .f32⟩
  | 92 => ⟨S5x32, .f32⟩
  | 93 => ⟨S5x256x512, .f32⟩
  | 94 => ⟨S256x5x512, .f32⟩
  | 95 => ⟨S256x5x512, .f32⟩
  | 96 => ⟨S256x32x512, .f32⟩
  | 97 => ⟨S5x32x1, .f32⟩
  | 98 => ⟨S5x32, .f32⟩
  | 99 => ⟨S5x256x512, .f32⟩
  | 100 => ⟨S256x5x512, .f32⟩
  | 101 => ⟨S256x5x512, .f32⟩
  | 102 => ⟨S256x32x512, .f32⟩
  | 103 => ⟨S5x32x1, .f32⟩
  | 104 => ⟨S5x32, .f32⟩
  | 105 => ⟨S5x256x512, .f32⟩
  | 106 => ⟨S256x5x512, .f32⟩
  | 107 => ⟨S256x5x512, .f32⟩
  | 108 => ⟨S256x32x512, .f32⟩
  | 109 => ⟨S5x32x1, .f32⟩
  | 110 => ⟨S5x32, .f32⟩
  | 111 => ⟨S5x256x512, .f32⟩
  | 112 => ⟨S256x5x512, .f32⟩
  | 113 => ⟨S256x5x512, .f32⟩
  | 114 => ⟨S256x32x512, .f32⟩
  | 115 => ⟨S5x32x1, .f32⟩
  | 116 => ⟨S5x32, .f32⟩
  | 117 => ⟨S5x256x512, .f32⟩
  | 118 => ⟨S256x5x512, .f32⟩
  | 119 => ⟨S256x5x512, .f32⟩
  | 120 => ⟨S1x5x1, .f32⟩
  | 121 => ⟨S256x5x512, .f32⟩
  | 122 => ⟨S256x5x512, .f32⟩
  | 123 => ⟨S_, .f32⟩
  | 124 => ⟨S256x5x512, .f32⟩
  | 125 => ⟨S256x5x512, .f32⟩
  | 126 => ⟨S_, .i32⟩
  | 127 => ⟨S_, .f32⟩
  | _ => ⟨S256x512, .f32⟩

abbrev hbmTy0_3 (i : Nat) : BufTy := match i % 128 with
  | 0 => ⟨S256x5x516, .f32⟩
  | 1 => ⟨S256x5x512, .f32⟩
  | 2 => ⟨S10x5x1, .f32⟩
  | 3 => ⟨S10x5, .f32⟩
  | 4 => ⟨S10x256x512, .f32⟩
  | 5 => ⟨S256x10x512, .f32⟩
  | 6 => ⟨S256x5x512, .f32⟩
  | 7 => ⟨S10x5x1, .f32⟩
  | 8 => ⟨S10x5, .f32⟩
  | 9 => ⟨S10x256x512, .f32⟩
  | 10 => ⟨S256x10x512, .f32⟩
  | 11 => ⟨S256x10x512, .f32⟩
  | 12 => ⟨S256x5x512, .f32⟩
  | 13 => ⟨S10x5x1, .f32⟩
  | 14 => ⟨S10x5, .f32⟩
  | 15 => ⟨S10x256x512, .f32⟩
  | 16 => ⟨S256x10x512, .f32⟩
  | 17 => ⟨S256x10x512, .f32⟩
  | 18 => ⟨S256x5x512, .f32⟩
  | 19 => ⟨S10x5x1, .f32⟩
  | 20 => ⟨S10x5, .f32⟩
  | 21 => ⟨S10x256x512, .f32⟩
  | 22 => ⟨S256x10x512, .f32⟩
  | 23 => ⟨S256x10x512, .f32⟩
  | 24 => ⟨S256x5x512, .f32⟩
  | 25 => ⟨S10x5x1, .f32⟩
  | 26 => ⟨S10x5, .f32⟩
  | 27 => ⟨S10x256x512, .f32⟩
  | 28 => ⟨S256x10x512, .f32⟩
  | 29 => ⟨S256x10x512, .f32⟩
  | 30 => ⟨S1x10x1, .f32⟩
  | 31 => ⟨S256x10x512, .f32⟩
  | 32 => ⟨S256x10x512, .f32⟩
  | 33 => ⟨S_, .f32⟩
  | 34 => ⟨S256x10x512, .f32⟩
  | 35 => ⟨S256x10x512, .f32⟩
  | 36 => ⟨S_, .i32⟩
  | 37 => ⟨S_, .f32⟩
  | 38 => ⟨S256x10x514, .f32⟩
  | 39 => ⟨S256x10x512, .f32⟩
  | 40 => ⟨S32x10x1, .f32⟩
  | 41 => ⟨S32x10, .f32⟩
  | 42 => ⟨S32x256x512, .f32⟩
  | 43 => ⟨S256x32x512, .f32⟩
  | 44 => ⟨S256x10x512, .f32⟩
  | 45 => ⟨S32x10x1, .f32⟩
  | 46 => ⟨S32x10, .f32⟩
  | 47 => ⟨S32x256x512, .f32⟩
  | 48 => ⟨S256x32x512, .f32⟩
  | 49 => ⟨S256x32x512, .f32⟩
  | 50 => ⟨S256x10x512, .f32⟩
  | 51 => ⟨S32x10x1, .f32⟩
  | 52 => ⟨S32x10, .f32⟩
  | 53 => ⟨S32x256x512, .f32⟩
  | 54 => ⟨S256x32x512, .f32⟩
  | 55 => ⟨S256x32x512, .f32⟩
  | 56 => ⟨S1x32x1, .f32⟩
  | 57 => ⟨S256x32x512, .f32⟩
  | 58 => ⟨S256x32x512, .f32⟩
  | 59 => ⟨S_, .f32⟩
  | 60 => ⟨S256x32x512, .f32⟩
  | 61 => ⟨S256x32x512, .f32⟩
  | 62 => ⟨S256x16384, .f32⟩
  | 63 => ⟨S16384x512, .f32⟩
  | 64 => ⟨S256x512, .f32⟩
  | 65 => ⟨S1x512, .f32⟩
  | 66 => ⟨S256x512, .f32⟩
  | 67 => ⟨S256x512, .f32⟩
  | 68 => ⟨S256x512, .f32⟩
  | _ => ⟨S256x512, .f32⟩

abbrev hbmTy (i : Nat) : BufTy := match i / 128 with
  | 0 => hbmTy0_0 i
  | 1 => hbmTy0_1 i
  | 2 => hbmTy0_2 i
  | 3 => hbmTy0_3 i
  | _ => ⟨S256x512, .f32⟩

abbrev bufTy : (tb : Table) → Fin (tcTables nBuf tb) → BufTy
  | .hbm, ⟨i, _⟩ => hbmTy i
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_c : Ref sig .tc := ⟨.hbm, 23, rfl⟩
abbrev main_call0_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_call1_cst : Ref sig .tc := ⟨.hbm, 46, rfl⟩
abbrev main_call1_v0 : Ref sig .tc := ⟨.hbm, 47, rfl⟩
abbrev main_v22 : Ref sig .tc := ⟨.hbm, 48, rfl⟩
abbrev main_c_0 : Ref sig .tc := ⟨.hbm, 49, rfl⟩
abbrev main_call2_v0 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_call3_cst : Ref sig .tc := ⟨.hbm, 84, rfl⟩
abbrev main_call3_v0 : Ref sig .tc := ⟨.hbm, 85, rfl⟩
abbrev main_v56 : Ref sig .tc := ⟨.hbm, 86, rfl⟩
abbrev main_c_1 : Ref sig .tc := ⟨.hbm, 87, rfl⟩
abbrev main_call4_v0 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_cst : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_cst_2 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_cst_3 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_cst_4 : Ref sig .tc := ⟨.hbm, 155, rfl⟩
abbrev main_v120 : Ref sig .tc := ⟨.hbm, 156, rfl⟩
abbrev main_v121 : Ref sig .tc := ⟨.hbm, 157, rfl⟩
abbrev main_cst_5 : Ref sig .tc := ⟨.hbm, 158, rfl⟩
abbrev main_v122 : Ref sig .tc := ⟨.hbm, 159, rfl⟩
abbrev main_cst_6 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_cst_7 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_cst_8 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_cst_9 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_cst_10 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_cst_11 : Ref sig .tc := ⟨.hbm, 192, rfl⟩
abbrev main_v150 : Ref sig .tc := ⟨.hbm, 193, rfl⟩
abbrev main_v151 : Ref sig .tc := ⟨.hbm, 194, rfl⟩
abbrev main_cst_12 : Ref sig .tc := ⟨.hbm, 195, rfl⟩
abbrev main_v152 : Ref sig .tc := ⟨.hbm, 196, rfl⟩
abbrev main_cst_13 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_cst_14 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_c_15 : Ref sig .tc := ⟨.hbm, 211, rfl⟩
abbrev main_call5_v0 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩
abbrev main_v189 : Ref sig .tc := ⟨.hbm, 237, rfl⟩
abbrev main_v190 : Ref sig .tc := ⟨.hbm, 238, rfl⟩
abbrev main_v191 : Ref sig .tc := ⟨.hbm, 239, rfl⟩
abbrev main_v192 : Ref sig .tc := ⟨.hbm, 240, rfl⟩
abbrev main_v193 : Ref sig .tc := ⟨.hbm, 241, rfl⟩
abbrev main_v194 : Ref sig .tc := ⟨.hbm, 242, rfl⟩
abbrev main_v195 : Ref sig .tc := ⟨.hbm, 243, rfl⟩
abbrev main_v196 : Ref sig .tc := ⟨.hbm, 244, rfl⟩
abbrev main_v197 : Ref sig .tc := ⟨.hbm, 245, rfl⟩
abbrev main_v198 : Ref sig .tc := ⟨.hbm, 246, rfl⟩
abbrev main_v199 : Ref sig .tc := ⟨.hbm, 247, rfl⟩
abbrev main_v200 : Ref sig .tc := ⟨.hbm, 248, rfl⟩
abbrev main_v201 : Ref sig .tc := ⟨.hbm, 249, rfl⟩
abbrev main_v202 : Ref sig .tc := ⟨.hbm, 250, rfl⟩
abbrev main_v203 : Ref sig .tc := ⟨.hbm, 251, rfl⟩
abbrev main_v204 : Ref sig .tc := ⟨.hbm, 252, rfl⟩
abbrev main_v205 : Ref sig .tc := ⟨.hbm, 253, rfl⟩
abbrev main_v206 : Ref sig .tc := ⟨.hbm, 254, rfl⟩
abbrev main_v207 : Ref sig .tc := ⟨.hbm, 255, rfl⟩
abbrev main_v208 : Ref sig .tc := ⟨.hbm, 256, rfl⟩
abbrev main_v209 : Ref sig .tc := ⟨.hbm, 257, rfl⟩
abbrev main_call6_cst : Ref sig .tc := ⟨.hbm, 258, rfl⟩
abbrev main_call6_v0 : Ref sig .tc := ⟨.hbm, 259, rfl⟩
abbrev main_v210 : Ref sig .tc := ⟨.hbm, 260, rfl⟩
abbrev main_c_16 : Ref sig .tc := ⟨.hbm, 261, rfl⟩
abbrev main_call7_v0 : Ref sig .tc := ⟨.hbm, 262, rfl⟩
abbrev main_v211 : Ref sig .tc := ⟨.hbm, 263, rfl⟩
abbrev main_v212 : Ref sig .tc := ⟨.hbm, 264, rfl⟩
abbrev main_v213 : Ref sig .tc := ⟨.hbm, 265, rfl⟩
abbrev main_v214 : Ref sig .tc := ⟨.hbm, 266, rfl⟩
abbrev main_v215 : Ref sig .tc := ⟨.hbm, 267, rfl⟩
abbrev main_v216 : Ref sig .tc := ⟨.hbm, 268, rfl⟩
abbrev main_v217 : Ref sig .tc := ⟨.hbm, 269, rfl⟩
abbrev main_v218 : Ref sig .tc := ⟨.hbm, 270, rfl⟩
abbrev main_v219 : Ref sig .tc := ⟨.hbm, 271, rfl⟩
abbrev main_v220 : Ref sig .tc := ⟨.hbm, 272, rfl⟩
abbrev main_v221 : Ref sig .tc := ⟨.hbm, 273, rfl⟩
abbrev main_v222 : Ref sig .tc := ⟨.hbm, 274, rfl⟩
abbrev main_v223 : Ref sig .tc := ⟨.hbm, 275, rfl⟩
abbrev main_v224 : Ref sig .tc := ⟨.hbm, 276, rfl⟩
abbrev main_v225 : Ref sig .tc := ⟨.hbm, 277, rfl⟩
abbrev main_v226 : Ref sig .tc := ⟨.hbm, 278, rfl⟩
abbrev main_v227 : Ref sig .tc := ⟨.hbm, 279, rfl⟩
abbrev main_v228 : Ref sig .tc := ⟨.hbm, 280, rfl⟩
abbrev main_v229 : Ref sig .tc := ⟨.hbm, 281, rfl⟩
abbrev main_v230 : Ref sig .tc := ⟨.hbm, 282, rfl⟩
abbrev main_v231 : Ref sig .tc := ⟨.hbm, 283, rfl⟩
abbrev main_v232 : Ref sig .tc := ⟨.hbm, 284, rfl⟩
abbrev main_v233 : Ref sig .tc := ⟨.hbm, 285, rfl⟩
abbrev main_v234 : Ref sig .tc := ⟨.hbm, 286, rfl⟩
abbrev main_v235 : Ref sig .tc := ⟨.hbm, 287, rfl⟩
abbrev main_v236 : Ref sig .tc := ⟨.hbm, 288, rfl⟩
abbrev main_v237 : Ref sig .tc := ⟨.hbm, 289, rfl⟩
abbrev main_v238 : Ref sig .tc := ⟨.hbm, 290, rfl⟩
abbrev main_v239 : Ref sig .tc := ⟨.hbm, 291, rfl⟩
abbrev main_v240 : Ref sig .tc := ⟨.hbm, 292, rfl⟩
abbrev main_v241 : Ref sig .tc := ⟨.hbm, 293, rfl⟩
abbrev main_v242 : Ref sig .tc := ⟨.hbm, 294, rfl⟩
abbrev main_v243 : Ref sig .tc := ⟨.hbm, 295, rfl⟩
abbrev main_call8_cst : Ref sig .tc := ⟨.hbm, 296, rfl⟩
abbrev main_call8_v0 : Ref sig .tc := ⟨.hbm, 297, rfl⟩
abbrev main_v244 : Ref sig .tc := ⟨.hbm, 298, rfl⟩
abbrev main_c_17 : Ref sig .tc := ⟨.hbm, 299, rfl⟩
abbrev main_call9_v0 : Ref sig .tc := ⟨.hbm, 300, rfl⟩
abbrev main_v245 : Ref sig .tc := ⟨.hbm, 301, rfl⟩
abbrev main_v246 : Ref sig .tc := ⟨.hbm, 302, rfl⟩
abbrev main_v247 : Ref sig .tc := ⟨.hbm, 303, rfl⟩
abbrev main_v248 : Ref sig .tc := ⟨.hbm, 304, rfl⟩
abbrev main_v249 : Ref sig .tc := ⟨.hbm, 305, rfl⟩
abbrev main_v250 : Ref sig .tc := ⟨.hbm, 306, rfl⟩
abbrev main_v251 : Ref sig .tc := ⟨.hbm, 307, rfl⟩
abbrev main_v252 : Ref sig .tc := ⟨.hbm, 308, rfl⟩
abbrev main_v253 : Ref sig .tc := ⟨.hbm, 309, rfl⟩
abbrev main_v254 : Ref sig .tc := ⟨.hbm, 310, rfl⟩
abbrev main_v255 : Ref sig .tc := ⟨.hbm, 311, rfl⟩
abbrev main_v256 : Ref sig .tc := ⟨.hbm, 312, rfl⟩
abbrev main_v257 : Ref sig .tc := ⟨.hbm, 313, rfl⟩
abbrev main_v258 : Ref sig .tc := ⟨.hbm, 314, rfl⟩
abbrev main_v259 : Ref sig .tc := ⟨.hbm, 315, rfl⟩
abbrev main_v260 : Ref sig .tc := ⟨.hbm, 316, rfl⟩
abbrev main_v261 : Ref sig .tc := ⟨.hbm, 317, rfl⟩
abbrev main_v262 : Ref sig .tc := ⟨.hbm, 318, rfl⟩
abbrev main_v263 : Ref sig .tc := ⟨.hbm, 319, rfl⟩
abbrev main_v264 : Ref sig .tc := ⟨.hbm, 320, rfl⟩
abbrev main_v265 : Ref sig .tc := ⟨.hbm, 321, rfl⟩
abbrev main_call10_cst : Ref sig .tc := ⟨.hbm, 322, rfl⟩
abbrev main_call10_v0 : Ref sig .tc := ⟨.hbm, 323, rfl⟩
abbrev main_v266 : Ref sig .tc := ⟨.hbm, 324, rfl⟩
abbrev main_v267 : Ref sig .tc := ⟨.hbm, 325, rfl⟩
abbrev main_v268 : Ref sig .tc := ⟨.hbm, 326, rfl⟩
abbrev main_v269 : Ref sig .tc := ⟨.hbm, 327, rfl⟩
abbrev main_v270 : Ref sig .tc := ⟨.hbm, 328, rfl⟩
abbrev main_v271 : Ref sig .tc := ⟨.hbm, 329, rfl⟩
abbrev main_v272 : Ref sig .tc := ⟨.hbm, 330, rfl⟩
abbrev main_v273 : Ref sig .tc := ⟨.hbm, 331, rfl⟩
abbrev main_c_18 : Ref sig .tc := ⟨.hbm, 332, rfl⟩
abbrev main_call11_v0 : Ref sig .tc := ⟨.hbm, 333, rfl⟩
abbrev main_v274 : Ref sig .tc := ⟨.hbm, 334, rfl⟩
abbrev main_v275 : Ref sig .tc := ⟨.hbm, 335, rfl⟩
abbrev main_v276 : Ref sig .tc := ⟨.hbm, 336, rfl⟩
abbrev main_v277 : Ref sig .tc := ⟨.hbm, 337, rfl⟩
abbrev main_v278 : Ref sig .tc := ⟨.hbm, 338, rfl⟩
abbrev main_v279 : Ref sig .tc := ⟨.hbm, 339, rfl⟩
abbrev main_v280 : Ref sig .tc := ⟨.hbm, 340, rfl⟩
abbrev main_v281 : Ref sig .tc := ⟨.hbm, 341, rfl⟩
abbrev main_v282 : Ref sig .tc := ⟨.hbm, 342, rfl⟩
abbrev main_v283 : Ref sig .tc := ⟨.hbm, 343, rfl⟩
abbrev main_v284 : Ref sig .tc := ⟨.hbm, 344, rfl⟩
abbrev main_v285 : Ref sig .tc := ⟨.hbm, 345, rfl⟩
abbrev main_v286 : Ref sig .tc := ⟨.hbm, 346, rfl⟩
abbrev main_v287 : Ref sig .tc := ⟨.hbm, 347, rfl⟩
abbrev main_v288 : Ref sig .tc := ⟨.hbm, 348, rfl⟩
abbrev main_v289 : Ref sig .tc := ⟨.hbm, 349, rfl⟩
abbrev main_v290 : Ref sig .tc := ⟨.hbm, 350, rfl⟩
abbrev main_v291 : Ref sig .tc := ⟨.hbm, 351, rfl⟩
abbrev main_v292 : Ref sig .tc := ⟨.hbm, 352, rfl⟩
abbrev main_v293 : Ref sig .tc := ⟨.hbm, 353, rfl⟩
abbrev main_v294 : Ref sig .tc := ⟨.hbm, 354, rfl⟩
abbrev main_v295 : Ref sig .tc := ⟨.hbm, 355, rfl⟩
abbrev main_v296 : Ref sig .tc := ⟨.hbm, 356, rfl⟩
abbrev main_v297 : Ref sig .tc := ⟨.hbm, 357, rfl⟩
abbrev main_v298 : Ref sig .tc := ⟨.hbm, 358, rfl⟩
abbrev main_v299 : Ref sig .tc := ⟨.hbm, 359, rfl⟩
abbrev main_v300 : Ref sig .tc := ⟨.hbm, 360, rfl⟩
abbrev main_v301 : Ref sig .tc := ⟨.hbm, 361, rfl⟩
abbrev main_v302 : Ref sig .tc := ⟨.hbm, 362, rfl⟩
abbrev main_v303 : Ref sig .tc := ⟨.hbm, 363, rfl⟩
abbrev main_v304 : Ref sig .tc := ⟨.hbm, 364, rfl⟩
abbrev main_v305 : Ref sig .tc := ⟨.hbm, 365, rfl⟩
abbrev main_v306 : Ref sig .tc := ⟨.hbm, 366, rfl⟩
abbrev main_v307 : Ref sig .tc := ⟨.hbm, 367, rfl⟩
abbrev main_v308 : Ref sig .tc := ⟨.hbm, 368, rfl⟩
abbrev main_v309 : Ref sig .tc := ⟨.hbm, 369, rfl⟩
abbrev main_v310 : Ref sig .tc := ⟨.hbm, 370, rfl⟩
abbrev main_v311 : Ref sig .tc := ⟨.hbm, 371, rfl⟩
abbrev main_v312 : Ref sig .tc := ⟨.hbm, 372, rfl⟩
abbrev main_v313 : Ref sig .tc := ⟨.hbm, 373, rfl⟩
abbrev main_v314 : Ref sig .tc := ⟨.hbm, 374, rfl⟩
abbrev main_v315 : Ref sig .tc := ⟨.hbm, 375, rfl⟩
abbrev main_v316 : Ref sig .tc := ⟨.hbm, 376, rfl⟩
abbrev main_v317 : Ref sig .tc := ⟨.hbm, 377, rfl⟩
abbrev main_v318 : Ref sig .tc := ⟨.hbm, 378, rfl⟩
abbrev main_call12_cst : Ref sig .tc := ⟨.hbm, 379, rfl⟩
abbrev main_call12_v0 : Ref sig .tc := ⟨.hbm, 380, rfl⟩
abbrev main_v319 : Ref sig .tc := ⟨.hbm, 381, rfl⟩
abbrev main_c_19 : Ref sig .tc := ⟨.hbm, 382, rfl⟩
abbrev main_call13_v0 : Ref sig .tc := ⟨.hbm, 383, rfl⟩
abbrev main_v320 : Ref sig .tc := ⟨.hbm, 384, rfl⟩
abbrev main_v321 : Ref sig .tc := ⟨.hbm, 385, rfl⟩
abbrev main_v322 : Ref sig .tc := ⟨.hbm, 386, rfl⟩
abbrev main_v323 : Ref sig .tc := ⟨.hbm, 387, rfl⟩
abbrev main_v324 : Ref sig .tc := ⟨.hbm, 388, rfl⟩
abbrev main_v325 : Ref sig .tc := ⟨.hbm, 389, rfl⟩
abbrev main_v326 : Ref sig .tc := ⟨.hbm, 390, rfl⟩
abbrev main_v327 : Ref sig .tc := ⟨.hbm, 391, rfl⟩
abbrev main_v328 : Ref sig .tc := ⟨.hbm, 392, rfl⟩
abbrev main_v329 : Ref sig .tc := ⟨.hbm, 393, rfl⟩
abbrev main_v330 : Ref sig .tc := ⟨.hbm, 394, rfl⟩
abbrev main_v331 : Ref sig .tc := ⟨.hbm, 395, rfl⟩
abbrev main_v332 : Ref sig .tc := ⟨.hbm, 396, rfl⟩
abbrev main_v333 : Ref sig .tc := ⟨.hbm, 397, rfl⟩
abbrev main_v334 : Ref sig .tc := ⟨.hbm, 398, rfl⟩
abbrev main_v335 : Ref sig .tc := ⟨.hbm, 399, rfl⟩
abbrev main_v336 : Ref sig .tc := ⟨.hbm, 400, rfl⟩
abbrev main_v337 : Ref sig .tc := ⟨.hbm, 401, rfl⟩
abbrev main_v338 : Ref sig .tc := ⟨.hbm, 402, rfl⟩
abbrev main_v339 : Ref sig .tc := ⟨.hbm, 403, rfl⟩
abbrev main_v340 : Ref sig .tc := ⟨.hbm, 404, rfl⟩
abbrev main_v341 : Ref sig .tc := ⟨.hbm, 405, rfl⟩
abbrev main_v342 : Ref sig .tc := ⟨.hbm, 406, rfl⟩
abbrev main_v343 : Ref sig .tc := ⟨.hbm, 407, rfl⟩
abbrev main_v344 : Ref sig .tc := ⟨.hbm, 408, rfl⟩
abbrev main_v345 : Ref sig .tc := ⟨.hbm, 409, rfl⟩
abbrev main_v346 : Ref sig .tc := ⟨.hbm, 410, rfl⟩
abbrev main_v347 : Ref sig .tc := ⟨.hbm, 411, rfl⟩
abbrev main_v348 : Ref sig .tc := ⟨.hbm, 412, rfl⟩
abbrev main_v349 : Ref sig .tc := ⟨.hbm, 413, rfl⟩
abbrev main_v350 : Ref sig .tc := ⟨.hbm, 414, rfl⟩
abbrev main_v351 : Ref sig .tc := ⟨.hbm, 415, rfl⟩
abbrev main_v352 : Ref sig .tc := ⟨.hbm, 416, rfl⟩
abbrev main_call14_cst : Ref sig .tc := ⟨.hbm, 417, rfl⟩
abbrev main_call14_v0 : Ref sig .tc := ⟨.hbm, 418, rfl⟩
abbrev main_v353 : Ref sig .tc := ⟨.hbm, 419, rfl⟩
abbrev main_c_20 : Ref sig .tc := ⟨.hbm, 420, rfl⟩
abbrev main_call15_v0 : Ref sig .tc := ⟨.hbm, 421, rfl⟩
abbrev main_v354 : Ref sig .tc := ⟨.hbm, 422, rfl⟩
abbrev main_v355 : Ref sig .tc := ⟨.hbm, 423, rfl⟩
abbrev main_v356 : Ref sig .tc := ⟨.hbm, 424, rfl⟩
abbrev main_v357 : Ref sig .tc := ⟨.hbm, 425, rfl⟩
abbrev main_v358 : Ref sig .tc := ⟨.hbm, 426, rfl⟩
abbrev main_v359 : Ref sig .tc := ⟨.hbm, 427, rfl⟩
abbrev main_v360 : Ref sig .tc := ⟨.hbm, 428, rfl⟩
abbrev main_v361 : Ref sig .tc := ⟨.hbm, 429, rfl⟩
abbrev main_v362 : Ref sig .tc := ⟨.hbm, 430, rfl⟩
abbrev main_v363 : Ref sig .tc := ⟨.hbm, 431, rfl⟩
abbrev main_v364 : Ref sig .tc := ⟨.hbm, 432, rfl⟩
abbrev main_v365 : Ref sig .tc := ⟨.hbm, 433, rfl⟩
abbrev main_v366 : Ref sig .tc := ⟨.hbm, 434, rfl⟩
abbrev main_v367 : Ref sig .tc := ⟨.hbm, 435, rfl⟩
abbrev main_v368 : Ref sig .tc := ⟨.hbm, 436, rfl⟩
abbrev main_v369 : Ref sig .tc := ⟨.hbm, 437, rfl⟩
abbrev main_v370 : Ref sig .tc := ⟨.hbm, 438, rfl⟩
abbrev main_v371 : Ref sig .tc := ⟨.hbm, 439, rfl⟩
abbrev main_v372 : Ref sig .tc := ⟨.hbm, 440, rfl⟩
abbrev main_v373 : Ref sig .tc := ⟨.hbm, 441, rfl⟩
abbrev main_v374 : Ref sig .tc := ⟨.hbm, 442, rfl⟩
abbrev main_call16_cst : Ref sig .tc := ⟨.hbm, 443, rfl⟩
abbrev main_call16_v0 : Ref sig .tc := ⟨.hbm, 444, rfl⟩
abbrev main_v375 : Ref sig .tc := ⟨.hbm, 445, rfl⟩
abbrev main_v376 : Ref sig .tc := ⟨.hbm, 446, rfl⟩
abbrev main_v377 : Ref sig .tc := ⟨.hbm, 447, rfl⟩
abbrev main_v378 : Ref sig .tc := ⟨.hbm, 448, rfl⟩
abbrev main_v379 : Ref sig .tc := ⟨.hbm, 449, rfl⟩
abbrev main_v380 : Ref sig .tc := ⟨.hbm, 450, rfl⟩
abbrev main_v381 : Ref sig .tc := ⟨.hbm, 451, rfl⟩
abbrev main_v382 : Ref sig .tc := ⟨.hbm, 452, rfl⟩

abbrev nD : Nat := 1
abbrev τ : Topo := Topo.v7x

variable {F : FTy → Type} [FloatOps F]
-- ==== Proof.RefRun.lean ====
module

public import proofs.«01_k».proof.Proof.Gen.ReferenceIdeal.Read
public import Idealize.ShloMosaic.Lib.Quiescent

@[expose] public section

noncomputable section

namespace Cert.RefRun

open Idealize.ShloMosaic Idealize.SL.Sem Cert.ReferenceIdeal

/-- The reference ends with its arguments unchanged; it declares no semaphore, so every counter is at zero. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21))
      ∧ r.2.sem = fun _ => 0) :=
  (θ_run defs _ _).mono (fun r h => ⟨fun c => (h c).2.2, sem_eq_zero_of_no_sems rfl r.2⟩) (Cert.ReferenceIdeal.Value.run m ρ)

end Cert.RefRun

end
-- ==== Proof.RefResults.lean ====
module

public import proofs.«01_k».proof.Proof.Gen.ReferenceIdeal.Read

@[expose] public section

noncomputable section

/-! The reference's run: both results as stages over its arguments. -/

namespace Cert.RefResults

open Idealize.ShloMosaic Idealize.ShloMosaic.TcCoe Idealize.SL.Sem Cert.ReferenceIdeal Cert.ReferenceIdeal.Read

theorem results (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v273) = val_main_v273 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg19)) (m ((c : Thread nD τ).loc main_arg20)) (m ((c : Thread nD τ).loc main_arg21))
      ∧ r.2.mem ((c.tc : Thread nD τ).loc main_v382) = val_main_v382 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c =>
    ⟨(h c).1.trans (val_main_v273_eq (StableHlo.launchContents m c)), (h c).2.1.trans (val_main_v382_eq (StableHlo.launchContents m c)), (h c).2.2⟩)
    (Cert.ReferenceIdeal.Value.run m ρ)

theorem congr_v273 {x0 y0 : FVec Ideal S256x512 .f32} {x1 y1 : FVec Ideal S5x1x3 .f32} {x2 y2 : FVec Ideal S5 .f32} {x3 y3 : FVec Ideal S10x5x5 .f32} {x4 y4 : FVec Ideal S10 .f32} {x5 y5 : FVec Ideal S64x10x7 .f32} {x6 y6 : FVec Ideal S64 .f32} {x7 y7 : FVec Ideal S5x32x7 .f32} {x8 y8 : FVec Ideal S5 .f32} {x9 y9 : FVec Ideal S10x5x5 .f32} {x10 y10 : FVec Ideal S10 .f32} {x11 y11 : FVec Ideal S32x10x3 .f32} {x12 y12 : FVec Ideal S32 .f32} {x19 y19 : FVec Ideal S512x16384 .f32} {x20 y20 : FVec Ideal S512 .f32} {x21 y21 : FVec Ideal S32x1024 .f32}
    (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) (h19 : x19 = y19) (h20 : x20 = y20) (h21 : x21 = y21) :
    val_main_v273 (F := Ideal) x0 x1 x2 x3 x4 x5 x6 x7 x8 x9 x10 x11 x12 x19 x20 x21 = val_main_v273 (F := Ideal) y0 y1 y2 y3 y4 y5 y6 y7 y8 y9 y10 y11 y12 y19 y20 y21 := by
  subst h0 h1 h2 h3 h4 h5 h6 h7 h8 h9 h10 h11 h12 h19 h20 h21
  rfl

theorem congr_v382 {x0 y0 : FVec Ideal S256x512 .f32} {x1 y1 : FVec Ideal S5x1x3 .f32} {x2 y2 : FVec Ideal S5 .f32} {x3 y3 : FVec Ideal S10x5x5 .f32} {x4 y4 : FVec Ideal S10 .f32} {x5 y5 : FVec Ideal S64x10x7 .f32} {x6 y6 : FVec Ideal S64 .f32} {x13 y13 : FVec Ideal S5x32x7 .f32} {x14 y14 : FVec Ideal S5 .f32} {x15 y15 : FVec Ideal S10x5x5 .f32} {x16 y16 : FVec Ideal S10 .f32} {x17 y17 : FVec Ideal S32x10x3 .f32} {x18 y18 : FVec Ideal S32 .f32} {x19 y19 : FVec Ideal S512x16384 .f32} {x20 y20 : FVec Ideal S512 .f32} {x21 y21 : FVec Ideal S32x1024 .f32}
    (h0 : x0 = y0) (h1 : x1 = y1) (h2 : x2 = y2) (h3 : x3 = y3) (h4 : x4 = y4) (h5 : x5 = y5) (h6 : x6 = y6) (h13 : x13 = y13) (h14 : x14 = y14) (h15 : x15 = y15) (h16 : x16 = y16) (h17 : x17 = y17) (h18 : x18 = y18) (h19 : x19 = y19) (h20 : x20 = y20) (h21 : x21 = y21) :
    val_main_v382 (F := Ideal) x0 x1 x2 x3 x4 x5 x6 x13 x14 x15 x16 x17 x18 x19 x20 x21 = val_main_v382 (F := Ideal) y0 y1 y2 y3 y4 y5 y6 y13 y14 y15 y16 y17 y18 y19 y20 y21 := by
  subst h0 h1 h2 h3 h4 h5 h6 h13 h14 h15 h16 h17 h18 h19 h20 h21
  rfl

end Cert.RefResults

end
-- ==== Proof.Run.lean ====
module

public import proofs.«01_k».proof.Proof.Gen.KernelIdeal.Frame

@[expose] public section

set_option maxRecDepth 16384

noncomputable section

/-! The kernel's run: every buffer ends at the contents after the last kernel call. -/

namespace Cert.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every unscoped buffer after the run. -/
theorem run : θ_run defs (onTc (τ := τ) (main (F := F))) ⟨m, fun _ => 0, ρ⟩
    (fun r => ∀ c : Dev nD, ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => h)

/-- The two results and the arguments after the run. -/
theorem results : θ_run defs (onTc (τ := τ) (main (F := F))) ⟨m, fun _ => 0, ρ⟩ (fun r => ∀ c : Dev nD,
      r.2.mem ((c.tc : Thread nD τ).loc main_v0_0) = (dat1 (V3 m ρ) c).arrAt 4 cfg1.N
      ∧ r.2.mem ((c.tc : Thread nD τ).loc main_v0_1) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c =>
    ⟨(h c _ (mem_uc main_v0_0 (by decide))).trans (W4_arr m ρ c 4),
     (h c _ (mem_uc main_v0_1 (by decide))).trans (W4_arr m ρ c 5),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c),
     (h c _ (mem_uc main_arg10 (by decide))).trans (W4_main_arg10 m ρ c),
     (h c _ (mem_uc main_arg11 (by decide))).trans (W4_main_arg11 m ρ c),
     (h c _ (mem_uc main_arg12 (by decide))).trans (W4_main_arg12 m ρ c),
     (h c _ (mem_uc main_arg13 (by decide))).trans (W4_main_arg13 m ρ c),
     (h c _ (mem_uc main_arg14 (by decide))).trans (W4_main_arg14 m ρ c),
     (h c _ (mem_uc main_arg15 (by decide))).trans (W4_main_arg15 m ρ c),
     (h c _ (mem_uc main_arg16 (by decide))).trans (W4_main_arg16 m ρ c),
     (h c _ (mem_uc main_arg17 (by decide))).trans (W4_main_arg17 m ρ c),
     (h c _ (mem_uc main_arg18 (by decide))).trans (W4_main_arg18 m ρ c),
     (h c _ (mem_uc main_arg19 (by decide))).trans (W4_main_arg19 m ρ c),
     (h c _ (mem_uc main_arg20 (by decide))).trans (W4_main_arg20 m ρ c),
     (h c _ (mem_uc main_arg21 (by decide))).trans (W4_main_arg21 m ρ c)⟩) (run m ρ)

end Cert.Run

end
-- ==== Proof.KConv.lean ====
module

public import Idealize.ShloMosaic.Lib.Pipeline.Value
public import Idealize.ShloMosaic.Lib.MatmulPlain
public import Idealize.ShloMosaic.Lib.IdealHost
public import Idealize.ShloMosaic.Lib.ValueIdxCore

@[expose] public section

noncomputable section

/-!
  The convolutions, over the extended reals: `conv` is the mathematics of one same-padded convolution of 512 frames, and
  the block stages of the kernel (shifted copies side by side, one matrix product, a bias) are read as it.
-/

namespace Cert.KConv

open Idealize.ShloMosaic Idealize.ShloMosaic.ValueIdx

/-- Frame `t + j - p` of a channel, zero outside the 512 frames: what tap `j` of a convolution padded by `p` meets. -/
def tap (x : Fin 512 → EReal) (p j : ℕ) (t : Fin 512) : EReal :=
  if h : p ≤ t.val + j ∧ t.val + j < 512 + p then x ⟨t.val + j - p, by omega⟩ else 0

/-- One convolution, same-padded by `p`: output channel `o` at frame `t`. -/
def conv {ci co K : ℕ} (p : ℕ) (w : Fin co → Fin ci → Fin K → EReal) (b : Fin co → EReal) (x : Fin ci → Fin 512 → EReal)
    (o : Fin co) (t : Fin 512) : EReal :=
  (∑ k : Fin K, ∑ i : Fin ci, w o i k * tap (x i) p k.val t) + b o

/-- The rectifier, entrywise. -/
def relu {n : ℕ} (x : Fin n → Fin 512 → EReal) (o : Fin n) (t : Fin 512) : EReal := max (x o t) 0

/-- Eight rows of 512 frames of `n` channels. -/
abbrev B3 (n : ℕ) : Shape := ⟨3, ![8, 512, n]⟩
/-- A matrix shape. -/
abbrev M2 (a b : ℕ) : Shape := ⟨2, ![a, b]⟩
/-- A bias as the kernel takes it. -/
abbrev V3 (n : ℕ) : Shape := ⟨3, ![1, 1, n]⟩
/-- Part of the frames of a block. -/
abbrev P3 (s n : ℕ) : Shape := ⟨3, ![8, s, n]⟩

variable {c ci co n K : ℕ}

/-- A block's row as channels by frames. -/
def row (X : FVec Ideal (B3 n) .f32) (r : Fin 8) : Fin n → Fin 512 → EReal := fun i t => X (ix3 r t i)

/-- The weights the kernel holds unfolded, as output by input by tap. -/
def colW (W : FVec Ideal (M2 n co) .f32) (hn : K * ci = n) : Fin co → Fin ci → Fin K → EReal := fun o i k =>
  W (ix2 ⟨k.val * ci + i.val, by
    have h1 := k.isLt; have h2 := i.isLt
    calc k.val * ci + i.val < k.val * ci + ci := by omega
      _ = (k.val + 1) * ci := by ring
      _ ≤ K * ci := Nat.mul_le_mul_right _ h1
      _ = n := hn⟩ o)

/-- The bias the kernel holds. -/
def rowB (B : FVec Ideal (V3 co) .f32) : Fin co → EReal := fun o => B (ix3 0 0 o)

/-- A block moved `s` frames later: zeros in front. -/
def late (s r : ℕ) (x : FVec Ideal (B3 c) .f32) (hs : (B3 c).Slices ![0, 0, 0] (P3 r c))
    (hc : Shape.Concatenates [P3 s c, P3 r c] (B3 c) 1) : FVec Ideal (B3 c) .f32 :=
  concatenate (B3 c) 1 [⟨P3 s c, broadcast (P3 s c) (Scalar.ofBits .f32 0x00000000#32)⟩,
    ⟨P3 r c, extractStridedSlice (P3 r c) ![0, 0, 0] x hs⟩] hc

/-- A block moved `s` frames earlier: zeros behind. -/
def early (s r : ℕ) (x : FVec Ideal (B3 c) .f32) (hs : (B3 c).Slices ![0, s, 0] (P3 r c))
    (hc : Shape.Concatenates [P3 r c, P3 s c] (B3 c) 1) : FVec Ideal (B3 c) .f32 :=
  concatenate (B3 c) 1 [⟨P3 r c, extractStridedSlice (P3 r c) ![0, s, 0] x hs⟩,
    ⟨P3 s c, broadcast (P3 s c) (Scalar.ofBits .f32 0x00000000#32)⟩] hc

theorem scalar_zero : (Scalar.ofBits .f32 0x00000000#32 : Ideal .f32) = (0 : EReal) := Ideal.ofBits_zero_f32

theorem late_apply (s r : ℕ) (hsr : s + r = 512) (x : FVec Ideal (B3 c) .f32) (hs : (B3 c).Slices ![0, 0, 0] (P3 r c))
    (hc : Shape.Concatenates [P3 s c, P3 r c] (B3 c) 1) (p j : ℕ) (hp : p = j + s) (b : Fin 8) (t : Fin 512) (i : Fin c) :
    late s r x hs hc (ix3 b t i) = tap (row x b i) p j t := by
  subst hp
  unfold late tap
  by_cases h : s ≤ t.val
  · have ht := t.isLt
    rw [dif_pos (by omega)]
    refine (concatenate_pair_apply_right (t := B3 c) 1 _ _ hc _ rfl rfl (ix3 b ⟨t.val - s, by omega⟩ i) ?_ ?_).trans ?_
    · intro a ha; fin_cases a
      · rfl
      · exact absurd rfl ha
      · rfl
    · show t.val - s + s = t.val; omega
    · refine extractStridedSlice_apply _ x hs _ (ix3 b ⟨t.val + j - (j + s), by omega⟩ i) ?_
      intro a; fin_cases a
      · show b.val = 0 + b.val; omega
      · show t.val + j - (j + s) = 0 + (t.val - s); omega
      · show i.val = 0 + i.val; omega
  · rw [dif_neg (by omega)]
    refine (concatenate_pair_apply_left (t := B3 c) 1 _ _ hc _ rfl (ix3 b ⟨t.val, by omega⟩ i) ?_).trans scalar_zero
    intro a; fin_cases a <;> rfl

theorem early_apply (s r : ℕ) (hsr : r + s = 512) (x : FVec Ideal (B3 c) .f32) (hs : (B3 c).Slices ![0, s, 0] (P3 r c))
    (hc : Shape.Concatenates [P3 r c, P3 s c] (B3 c) 1) (p j : ℕ) (hp : j = p + s) (b : Fin 8) (t : Fin 512) (i : Fin c) :
    early s r x hs hc (ix3 b t i) = tap (row x b i) p j t := by
  subst hp
  unfold early tap
  have ht := t.isLt
  by_cases h : t.val < r
  · rw [dif_pos (by omega)]
    refine (concatenate_pair_apply_left (t := B3 c) 1 _ _ hc _ rfl (ix3 b ⟨t.val, h⟩ i) ?_).trans ?_
    · intro a; fin_cases a <;> rfl
    · refine extractStridedSlice_apply _ x hs _ (ix3 b ⟨t.val + (p + s) - p, by omega⟩ i) ?_
      intro a; fin_cases a
      · show b.val = 0 + b.val; omega
      · show t.val + (p + s) - p = s + t.val; omega
      · show i.val = 0 + i.val; omega
  · rw [dif_neg (by omega)]
    refine (concatenate_pair_apply_right (t := B3 c) 1 _ _ hc _ rfl rfl (ix3 b ⟨t.val - r, by omega⟩ i) ?_ ?_).trans scalar_zero
    · intro a ha; fin_cases a
      · rfl
      · exact absurd rfl ha
      · rfl
    · show t.val - r + r = t.val; omega

theorem tap_self (x : Fin 512 → EReal) (p : ℕ) (t : Fin 512) : tap x p p t = x t := by
  unfold tap
  rw [dif_pos (by have := t.isLt; omega)]
  exact congrArg x (Fin.ext (by show t.val + p - p = t.val; omega))

/-- The matrix product of a convolution, the block flattened to its frames. -/
def kout (cat : FVec Ideal (B3 n) .f32) (W : FVec Ideal (M2 n co) .f32) (h1 : (B3 n).ShapeCasts (M2 4096 n))
    (hw : (M2 n co).ShapeCasts (M2 n co)) (h2 : (M2 4096 co).ShapeCasts (B3 co)) : FVec Ideal (B3 co) .f32 :=
  shapeCast (B3 co) (FloatOps.matmul (DotDims.plain 4096 n co) none (shapeCast (M2 4096 n) cat h1) (shapeCast (M2 n co) W hw)
    (constant (M2 4096 co) .f32 0x00000000#32)) h2

theorem flat_apply (X : FVec Ideal (B3 n) .f32) (h1 : (B3 n).ShapeCasts (M2 4096 n)) (r : Fin 8) (t : Fin 512) (q : Fin n) :
    shapeCast (M2 4096 n) X h1 (ix2 ⟨r.val * 512 + t.val, by omega⟩ q) = X (ix3 r t q) := by
  refine shapeCast_apply X h1 _ _ ?_
  rw [Shape.rowMajor_val_three, Shape.rowMajor_val_two]
  rfl

theorem unflat_apply (Y : FVec Ideal (M2 4096 co) .f32) (h2 : (M2 4096 co).ShapeCasts (B3 co)) (r : Fin 8) (t : Fin 512) (o : Fin co) :
    shapeCast (B3 co) Y h2 (ix3 r t o) = Y (ix2 ⟨r.val * 512 + t.val, by omega⟩ o) := by
  refine shapeCast_apply Y h2 _ _ ?_
  rw [Shape.rowMajor_val_three, Shape.rowMajor_val_two]
  rfl

theorem kout_apply (cat : FVec Ideal (B3 n) .f32) (W : FVec Ideal (M2 n co) .f32) (h1 : (B3 n).ShapeCasts (M2 4096 n))
    (hw : (M2 n co).ShapeCasts (M2 n co)) (h2 : (M2 4096 co).ShapeCasts (B3 co)) (r : Fin 8) (t : Fin 512) (o : Fin co) :
    kout cat W h1 hw h2 (ix3 r t o) = ∑ q : Fin n, (cat (ix3 r t q) : EReal) * W (ix2 q o) := by
  unfold kout
  rw [unflat_apply, shapeCast_self, Ideal.matmul_plain_apply]
  have hz : (constant (M2 4096 co) .f32 0x00000000#32 : FVec Ideal (M2 4096 co) .f32)
      (ix2 ⟨r.val * 512 + t.val, by omega⟩ o) = (0 : EReal) := Ideal.ofBits_zero_f32
  rw [hz, zero_add]
  refine Finset.sum_congr rfl fun q _ => ?_
  rw [flat_apply]

/-- A bias added, the same for every row and frame. -/
def kbias (y : FVec Ideal (B3 co) .f32) (B : FVec Ideal (V3 co) .f32) (hb : (V3 co).ShapeCasts (V3 co))
    (hbc : (V3 co).Broadcasts (B3 co)) : FVec Ideal (B3 co) .f32 :=
  addf y (broadcastTo (B3 co) (shapeCast (V3 co) B hb) hbc)

theorem kbias_apply (y : FVec Ideal (B3 co) .f32) (B : FVec Ideal (V3 co) .f32) (hb : (V3 co).ShapeCasts (V3 co))
    (hbc : (V3 co).Broadcasts (B3 co)) (r : Fin 8) (t : Fin 512) (o : Fin co) :
    kbias y B hb hbc (ix3 r t o) = (y (ix3 r t o) : EReal) + rowB B o := by
  unfold kbias rowB
  rw [shapeCast_self]
  show (y (ix3 r t o) : EReal) + broadcastTo (B3 co) B hbc (ix3 r t o) = _
  congr 1
  refine broadcastTo_apply B hbc _ _ ?_
  intro a; fin_cases a
  · rfl
  · rfl
  · show o.val = if co = 1 then 0 else o.val
    have := o.isLt
    split <;> omega

/-- The rectifier on a block. -/
def krelu (y : FVec Ideal (B3 n) .f32) : FVec Ideal (B3 n) .f32 :=
  maximumf y (broadcast (B3 n) (Scalar.ofBits .f32 0x00000000#32))

theorem row_krelu (y : FVec Ideal (B3 n) .f32) (r : Fin 8) : row (krelu y) r = relu (row y r) := by
  funext o t
  show max (y (ix3 r t o) : EReal) (Scalar.ofBits .f32 0x00000000#32 : Ideal .f32) = _
  rw [scalar_zero]; rfl

/-- The taps of a convolution side by side. -/
theorem cat_apply (f : Fin K → FVec Ideal (B3 ci) .f32) (hn : K * ci = n)
    (h : Shape.Concatenates ((List.ofFn fun k : Fin K => (⟨B3 ci, f k⟩ : (s : Shape) × (s.Idx → Ideal .f32))).map (·.1)) (B3 n) 2)
    (r : Fin 8) (t : Fin 512) (k : Fin K) (i : Fin ci) (hlt : k.val * ci + i.val < n) :
    concatenate (B3 n) 2 (List.ofFn fun k : Fin K => (⟨B3 ci, f k⟩ : (s : Shape) × (s.Idx → Ideal .f32))) h
      (ix3 r t ⟨k.val * ci + i.val, hlt⟩) = f k (ix3 r t i) := by
  have hi := i.isLt
  refine concatenate_ofFn_apply (t := B3 n) 2 f h rfl ci rfl _ k ?_ _ ?_ ?_
  · show (k.val * ci + i.val) / ci = k.val
    rw [mul_comm, Nat.mul_add_div (by omega), Nat.div_eq_of_lt hi, add_zero]
  · show i.val = (k.val * ci + i.val) % ci
    rw [mul_comm, Nat.mul_add_mod, Nat.mod_eq_of_lt hi]
  · intro a ha; fin_cases a
    · rfl
    · rfl
    · exact absurd rfl ha

theorem sum_split (hn : K * ci = n) (f : Fin n → EReal) :
    ∑ q : Fin n, f q = ∑ k : Fin K, ∑ i : Fin ci, f ⟨k.val * ci + i.val, by
      have h1 := k.isLt; have h2 := i.isLt
      calc k.val * ci + i.val < k.val * ci + ci := by omega
        _ = (k.val + 1) * ci := by ring
        _ ≤ K * ci := Nat.mul_le_mul_right _ h1
        _ = n := hn⟩ := by
  subst hn
  rw [← Fintype.sum_prod_type' (f := fun (k : Fin K) (i : Fin ci) => f ⟨k.val * ci + i.val, _⟩)]
  refine (Fintype.sum_equiv finProdFinEquiv _ _ fun x => ?_).symm
  refine congrArg f (Fin.ext ?_)
  show x.1.val * ci + x.2.val = x.2.val + ci * x.1.val
  ring

/-- A block convolution whose shifted copies read as taps is the convolution of each row. -/
theorem kconv_row (f : Fin K → FVec Ideal (B3 ci) .f32) (hn : K * ci = n) (x : FVec Ideal (B3 ci) .f32) (p : ℕ)
    (h : Shape.Concatenates ((List.ofFn fun k : Fin K => (⟨B3 ci, f k⟩ : (s : Shape) × (s.Idx → Ideal .f32))).map (·.1)) (B3 n) 2)
    (hf : ∀ (k : Fin K) (r : Fin 8) (t : Fin 512) (i : Fin ci), f k (ix3 r t i) = tap (row x r i) p k.val t)
    (W : FVec Ideal (M2 n co) .f32) (B : FVec Ideal (V3 co) .f32) (h1 : (B3 n).ShapeCasts (M2 4096 n))
    (hw : (M2 n co).ShapeCasts (M2 n co)) (h2 : (M2 4096 co).ShapeCasts (B3 co)) (hb : (V3 co).ShapeCasts (V3 co))
    (hbc : (V3 co).Broadcasts (B3 co)) (r : Fin 8) :
    row (kbias (kout (concatenate (B3 n) 2 (List.ofFn fun k : Fin K => (⟨B3 ci, f k⟩ : (s : Shape) × (s.Idx → Ideal .f32))) h)
      W h1 hw h2) B hb hbc) r = conv p (colW W hn) (rowB B) (row x r) := by
  funext o t
  unfold conv
  show kbias _ B hb hbc (ix3 r t o) = _
  rw [kbias_apply, kout_apply, sum_split hn]
  congr 1
  refine Finset.sum_congr rfl fun k _ => Finset.sum_congr rfl fun i _ => ?_
  rw [cat_apply f hn h, hf, mul_comm]
  rfl

/-- The shape facts of a three-tap convolution of a block. -/
structure F3 (ci co n : ℕ) : Prop where
  hn : 3 * ci = n
  sl : (B3 ci).Slices ![0, 0, 0] (P3 511 ci)
  se : (B3 ci).Slices ![0, 1, 0] (P3 511 ci)
  cl : Shape.Concatenates [P3 1 ci, P3 511 ci] (B3 ci) 1
  ce : Shape.Concatenates [P3 511 ci, P3 1 ci] (B3 ci) 1
  hc : Shape.Concatenates [B3 ci, B3 ci, B3 ci] (B3 n) 2
  h1 : (B3 n).ShapeCasts (M2 4096 n)
  hw : (M2 n co).ShapeCasts (M2 n co)
  h2 : (M2 4096 co).ShapeCasts (B3 co)
  hb : (V3 co).ShapeCasts (V3 co)
  hbc : (V3 co).Broadcasts (B3 co)

/-- The three-tap convolution of a block. -/
def kconv3 (H : F3 ci co n) (x : FVec Ideal (B3 ci) .f32) (W : FVec Ideal (M2 n co) .f32) (B : FVec Ideal (V3 co) .f32) :
    FVec Ideal (B3 co) .f32 :=
  kbias (kout (concatenate (B3 n) 2 [⟨B3 ci, late 1 511 x H.sl H.cl⟩, ⟨B3 ci, x⟩, ⟨B3 ci, early 1 511 x H.se H.ce⟩] H.hc)
    W H.h1 H.hw H.h2) B H.hb H.hbc

theorem row_kconv3 (H : F3 ci co n) (x : FVec Ideal (B3 ci) .f32) (W : FVec Ideal (M2 n co) .f32) (B : FVec Ideal (V3 co) .f32)
    (r : Fin 8) : row (kconv3 H x W B) r = conv 1 (colW W H.hn) (rowB B) (row x r) := by
  refine kconv_row ![late 1 511 x H.sl H.cl, x, early 1 511 x H.se H.ce] H.hn x 1 H.hc ?_ W B H.h1 H.hw H.h2 H.hb H.hbc r
  intro k b t i; fin_cases k
  · exact late_apply 1 511 (by decide) x H.sl H.cl _ _ (by decide) b t i
  · exact (tap_self (row x b i) 1 t).symm
  · exact early_apply 1 511 (by decide) x H.se H.ce _ _ (by decide) b t i

/-- The shape facts of a five-tap convolution of a block. -/
structure F5 (ci co n : ℕ) : Prop where
  hn : 5 * ci = n
  sl1 : (B3 ci).Slices ![0, 0, 0] (P3 511 ci)
  sl2 : (B3 ci).Slices ![0, 0, 0] (P3 510 ci)
  se1 : (B3 ci).Slices ![0, 1, 0] (P3 511 ci)
  se2 : (B3 ci).Slices ![0, 2, 0] (P3 510 ci)
  cl1 : Shape.Concatenates [P3 1 ci, P3 511 ci] (B3 ci) 1
  cl2 : Shape.Concatenates [P3 2 ci, P3 510 ci] (B3 ci) 1
  ce1 : Shape.Concatenates [P3 511 ci, P3 1 ci] (B3 ci) 1
  ce2 : Shape.Concatenates [P3 510 ci, P3 2 ci] (B3 ci) 1
  hc : Shape.Concatenates [B3 ci, B3 ci, B3 ci, B3 ci, B3 ci] (B3 n) 2
  h1 : (B3 n).ShapeCasts (M2 4096 n)
  hw : (M2 n co).ShapeCasts (M2 n co)
  h2 : (M2 4096 co).ShapeCasts (B3 co)
  hb : (V3 co).ShapeCasts (V3 co)
  hbc : (V3 co).Broadcasts (B3 co)

/-- The five-tap convolution of a block. -/
def kconv5 (H : F5 ci co n) (x : FVec Ideal (B3 ci) .f32) (W : FVec Ideal (M2 n co) .f32) (B : FVec Ideal (V3 co) .f32) :
    FVec Ideal (B3 co) .f32 :=
  kbias (kout (concatenate (B3 n) 2 [⟨B3 ci, late 2 510 x H.sl2 H.cl2⟩, ⟨B3 ci, late 1 511 x H.sl1 H.cl1⟩, ⟨B3 ci, x⟩,
    ⟨B3 ci, early 1 511 x H.se1 H.ce1⟩, ⟨B3 ci, early 2 510 x H.se2 H.ce2⟩] H.hc)
    W H.h1 H.hw H.h2) B H.hb H.hbc

theorem row_kconv5 (H : F5 ci co n) (x : FVec Ideal (B3 ci) .f32) (W : FVec Ideal (M2 n co) .f32) (B : FVec Ideal (V3 co) .f32)
    (r : Fin 8) : row (kconv5 H x W B) r = conv 2 (colW W H.hn) (rowB B) (row x r) := by
  refine kconv_row ![late 2 510 x H.sl2 H.cl2, late 1 511 x H.sl1 H.cl1, x, early 1 511 x H.se1 H.ce1, early 2 510 x H.se2 H.ce2]
    H.hn x 2 H.hc ?_ W B H.h1 H.hw H.h2 H.hb H.hbc r
  intro k b t i; fin_cases k
  · exact late_apply 2 510 (by decide) x H.sl2 H.cl2 _ _ (by decide) b t i
  · exact late_apply 1 511 (by decide) x H.sl1 H.cl1 _ _ (by decide) b t i
  · exact (tap_self (row x b i) 2 t).symm
  · exact early_apply 1 511 (by decide) x H.se1 H.ce1 _ _ (by decide) b t i
  · exact early_apply 2 510 (by decide) x H.se2 H.ce2 _ _ (by decide) b t i

/-- The shape facts of a seven-tap convolution of a block. -/
structure F7 (ci co n : ℕ) : Prop where
  hn : 7 * ci = n
  sl1 : (B3 ci).Slices ![0, 0, 0] (P3 511 ci)
  sl2 : (B3 ci).Slices ![0, 0, 0] (P3 510 ci)
  sl3 : (B3 ci).Slices ![0, 0, 0] (P3 509 ci)
  se1 : (B3 ci).Slices ![0, 1, 0] (P3 511 ci)
  se2 : (B3 ci).Slices ![0, 2, 0] (P3 510 ci)
  se3 : (B3 ci).Slices ![0, 3, 0] (P3 509 ci)
  cl1 : Shape.Concatenates [P3 1 ci, P3 511 ci] (B3 ci) 1
  cl2 : Shape.Concatenates [P3 2 ci, P3 510 ci] (B3 ci) 1
  cl3 : Shape.Concatenates [P3 3 ci, P3 509 ci] (B3 ci) 1
  ce1 : Shape.Concatenates [P3 511 ci, P3 1 ci] (B3 ci) 1
  ce2 : Shape.Concatenates [P3 510 ci, P3 2 ci] (B3 ci) 1
  ce3 : Shape.Concatenates [P3 509 ci, P3 3 ci] (B3 ci) 1
  hc : Shape.Concatenates [B3 ci, B3 ci, B3 ci, B3 ci, B3 ci, B3 ci, B3 ci] (B3 n) 2
  h1 : (B3 n).ShapeCasts (M2 4096 n)
  hw : (M2 n co).ShapeCasts (M2 n co)
  h2 : (M2 4096 co).ShapeCasts (B3 co)
  hb : (V3 co).ShapeCasts (V3 co)
  hbc : (V3 co).Broadcasts (B3 co)

/-- The seven-tap convolution of a block. -/
def kconv7 (H : F7 ci co n) (x : FVec Ideal (B3 ci) .f32) (W : FVec Ideal (M2 n co) .f32) (B : FVec Ideal (V3 co) .f32) :
    FVec Ideal (B3 co) .f32 :=
  kbias (kout (concatenate (B3 n) 2 [⟨B3 ci, late 3 509 x H.sl3 H.cl3⟩, ⟨B3 ci, late 2 510 x H.sl2 H.cl2⟩,
    ⟨B3 ci, late 1 511 x H.sl1 H.cl1⟩, ⟨B3 ci, x⟩, ⟨B3 ci, early 1 511 x H.se1 H.ce1⟩,
    ⟨B3 ci, early 2 510 x H.se2 H.ce2⟩, ⟨B3 ci, early 3 509 x H.se3 H.ce3⟩] H.hc)
    W H.h1 H.hw H.h2) B H.hb H.hbc

theorem row_kconv7 (H : F7 ci co n) (x : FVec Ideal (B3 ci) .f32) (W : FVec Ideal (M2 n co) .f32) (B : FVec Ideal (V3 co) .f32)
    (r : Fin 8) : row (kconv7 H x W B) r = conv 3 (colW W H.hn) (rowB B) (row x r) := by
  refine kconv_row ![late 3 509 x H.sl3 H.cl3, late 2 510 x H.sl2 H.cl2, late 1 511 x H.sl1 H.cl1, x, early 1 511 x H.se1 H.ce1,
    early 2 510 x H.se2 H.ce2, early 3 509 x H.se3 H.ce3] H.hn x 3 H.hc ?_ W B H.h1 H.hw H.h2 H.hb H.hbc r
  intro k b t i; fin_cases k
  · exact late_apply 3 509 (by decide) x H.sl3 H.cl3 _ _ (by decide) b t i
  · exact late_apply 2 510 (by decide) x H.sl2 H.cl2 _ _ (by decide) b t i
  · exact late_apply 1 511 (by decide) x H.sl1 H.cl1 _ _ (by decide) b t i
  · exact (tap_self (row x b i) 3 t).symm
  · exact early_apply 1 511 (by decide) x H.se1 H.ce1 _ _ (by decide) b t i
  · exact early_apply 2 510 (by decide) x H.se2 H.ce2 _ _ (by decide) b t i
  · exact early_apply 3 509 (by decide) x H.se3 H.ce3 _ _ (by decide) b t i

/-- The hyperbolic tangent, entrywise. -/
def tanhs (x : Fin n → Fin 512 → EReal) (o : Fin n) (t : Fin 512) : EReal := Ideal.tanh (x o t)

end Cert.KConv

end
-- ==== Proof.Quant.lean ====
module

public import proofs.«01_k».proof.Proof.KConv

@[expose] public section

noncomputable section

/-!
  The soft quantiser: every frame's 32 channels against 1024 codes, a softmax of the negated squared distances, and the
  codes mixed by it. The kernel drops the frame's own squared norm, which a softmax does not see.
-/

namespace Cert.Quant

open Idealize.ShloMosaic Idealize.ShloMosaic.ValueIdx Cert.KConv

/-- The softmax of 1024 logits. -/
def soft (l : Fin 1024 → EReal) (m : Fin 1024) : EReal :=
  Ideal.div (Ideal.exp (l m - Finset.univ.fold max ⊥ l)) (∑ q : Fin 1024, Ideal.exp (l q - Finset.univ.fold max ⊥ l))

/-- A frame's logits without its own norm. -/
def logit (code : Fin 32 → Fin 1024 → EReal) (h : Fin 32 → EReal) (m : Fin 1024) : EReal :=
  2 * (∑ i, h i * code i m) - ∑ i, code i m * code i m

/-- The quantised frame. -/
def quant (code : Fin 32 → Fin 1024 → EReal) (h : Fin 32 → Fin 512 → EReal) (c : Fin 32) (t : Fin 512) : EReal :=
  ∑ m, soft (logit code fun i => h i t) m * code c m

/-- The largest of the logits moved by a number is the largest, moved. -/
theorem top_add (l : Fin 1024 → EReal) (s : ℝ) :
    Finset.univ.fold max ⊥ (fun m => l m + (s : EReal)) = Finset.univ.fold max ⊥ l + (s : EReal) := by
  have hmono : Monotone fun x : EReal => x + (s : EReal) := fun a b h => add_le_add_left h _
  exact (Finset.comp_sup_eq_sup_comp (s := Finset.univ) (f := l) (fun x : EReal => x + (s : EReal))
    (fun x y => hmono.map_sup x y) (EReal.bot_add _)).symm

/-- Subtracting the same number from two extended reals, the second neither infinity, leaves their difference. -/
theorem move_sub (a M : EReal) (s : ℝ) (hM : M ≠ ⊥) (hM' : M ≠ ⊤) : (a + (s : EReal)) - (M + (s : EReal)) = a - M := by
  induction M with
  | bot => exact absurd rfl hM
  | top => exact absurd rfl hM'
  | coe M =>
    induction a with
    | bot => simp
    | top => rw [EReal.top_add_coe, ← EReal.coe_add, EReal.top_sub_coe, EReal.top_sub_coe]
    | coe a => rw [← EReal.coe_add, ← EReal.coe_add, ← EReal.coe_sub, ← EReal.coe_sub]; congr 1; ring

/-- A softmax does not see a number added to every logit. -/
theorem soft_add (l : Fin 1024 → ℝ) (s : ℝ) : soft (fun m => (l m : EReal) + (s : EReal)) = soft fun m => (l m : EReal) := by
  have hb : Finset.univ.fold max ⊥ (fun m => (l m : EReal)) ≠ ⊥ := by
    intro h
    have h0 : (l 0 : EReal) ≤ Finset.univ.sup fun m => (l m : EReal) := Finset.le_sup (f := fun m => (l m : EReal)) (Finset.mem_univ 0)
    have h' : (Finset.univ.sup fun m => (l m : EReal)) = ⊥ := h
    rw [h'] at h0
    exact EReal.coe_ne_bot _ (le_bot_iff.1 h0)
  have ht : Finset.univ.fold max ⊥ (fun m => (l m : EReal)) ≠ ⊤ := by
    intro h
    have h' : (Finset.univ.sup fun m => (l m : EReal)) = ⊤ := h
    obtain ⟨m, -, hm⟩ := Finset.exists_mem_eq_sup Finset.univ Finset.univ_nonempty fun m => (l m : EReal)
    rw [h'] at hm
    exact EReal.coe_ne_top _ hm.symm
  funext m
  unfold soft
  rw [top_add]
  simp only [move_sub _ _ s hb ht]

/-- A codebook of 1024 codes as the kernel holds it, and its transpose. -/
abbrev C2 : Shape := ⟨2, ![32, 1024]⟩

/-- The quantiser's shape facts on a block. -/
structure FQ : Prop where
  h1 : (B3 32).ShapeCasts (M2 4096 32)
  h2 : (M2 1 1024).Broadcasts (M2 4096 1024)
  h3 : (M2 4096 1024).Reduces [1] ⟨1, ![4096]⟩
  h4 : (⟨1, ![4096]⟩ : Shape).ShapeCasts (M2 4096 1)
  h5 : (M2 4096 1).Broadcasts (M2 4096 1024)
  h6 : (M2 4096 32).ShapeCasts (B3 32)
  hb : FTy.bf16.bits < FTy.f32.bits

/-- The logits of a block. -/
def klogit (H : FQ) (y : FVec Ideal (B3 32) .f32) (code : FVec Ideal C2 .f32) (cn : FVec Ideal (M2 1 1024) .f32) :
    FVec Ideal (M2 4096 1024) .f32 :=
  subf (mulf (broadcast (M2 4096 1024) (Scalar.ofBits .f32 0x40000000#32))
    (FloatOps.matmul (DotDims.plain 4096 32 1024) none (shapeCast (M2 4096 32) y H.h1) code
      (constant (M2 4096 1024) .f32 0x00000000#32))) (broadcastTo (M2 4096 1024) cn H.h2)

/-- A column of one number per row, spread along the rows. -/
def spread (H : FQ) (v : FVec Ideal ⟨1, ![4096]⟩ .f32) : FVec Ideal (M2 4096 1024) .f32 :=
  broadcastTo (M2 4096 1024) (shapeCast (M2 4096 1) v H.h4) H.h5

/-- The largest logit of every row. -/
def rowMax (H : FQ) (l : FVec Ideal (M2 4096 1024) .f32) : FVec Ideal ⟨1, ![4096]⟩ .f32 :=
  multiReduction .maximumf [1] ⟨1, ![4096]⟩ l 0xFF800000#32 H.h3 (.inl rfl) rfl

/-- The sum of every row. -/
def rowSum (H : FQ) (l : FVec Ideal (M2 4096 1024) .f32) : FVec Ideal ⟨1, ![4096]⟩ .f32 :=
  multiReduction .add [1] ⟨1, ![4096]⟩ l 0x00000000#32 H.h3 (.inl rfl) rfl

/-- The exponentials of a block's logits less their row's largest. -/
def kexp (H : FQ) (l : FVec Ideal (M2 4096 1024) .f32) : FVec Ideal (M2 4096 1024) .f32 :=
  exp (subf l (spread H (rowMax H l)))

/-- The quantiser of a block. -/
def kquant (H : FQ) (y : FVec Ideal (B3 32) .f32) (code : FVec Ideal C2 .f32) (codet : FVec Ideal (M2 1024 32) .f32)
    (cn : FVec Ideal (M2 1 1024) .f32) : FVec Ideal (B3 32) .f32 :=
  shapeCast (B3 32) (FloatOps.matmul (DotDims.plain 4096 1024 32) none
    (truncf .bf16 (divf (kexp H (klogit H y code cn))
      (spread H (rowSum H (kexp H (klogit H y code cn))))) H.hb)
    (truncf .bf16 codet H.hb) (constant (M2 4096 32) .f32 0x00000000#32)) H.h6

theorem two_f32 : (Scalar.ofBits .f32 0x40000000#32 : Ideal .f32) = (2 : EReal) := by
  show Ideal.ofBits .f32 0x40000000#32 = 2
  simp [Ideal.ofBits, Ideal.ieee, -EReal.coe_mul]
  norm_num
  rfl

theorem bot_f32 : (FloatOps.ofBits .f32 0xFF800000#32 : Ideal .f32) = (⊥ : EReal) := by
  show Ideal.ofBits .f32 0xFF800000#32 = ⊥
  simp [Ideal.ofBits, Ideal.ieee]

theorem spread_apply (H : FQ) (v : FVec Ideal ⟨1, ![4096]⟩ .f32) (r : Fin 4096) (m : Fin 1024) :
    spread H v (ix2 r m) = v (ix1 r) := by
  unfold spread
  refine (broadcastTo_apply _ H.h5 _ (ix2 r 0) ?_).trans (shapeCast_apply v H.h4 _ (ix1 r) ?_)
  · intro a; fin_cases a
    · show r.val = if (4096 : ℕ) = 1 then 0 else r.val; rw [if_neg (by decide)]
    · rfl
  · rw [Shape.rowMajor_val_one, Shape.rowMajor_val_two]
    show r.val = r.val * 1 + 0; omega

theorem lift_row (h : (M2 4096 1024).Reduces [1] ⟨1, ![4096]⟩) (r : Fin 4096) (k : Fin 1024) :
    h.lift (ix1 r) k = ix2 r k := by
  funext a; apply Fin.ext
  fin_cases a <;> rfl

theorem rowMax_apply (H : FQ) (l : FVec Ideal (M2 4096 1024) .f32) (r : Fin 4096) :
    rowMax H l (ix1 r) = Finset.univ.fold max ⊥ fun q : Fin 1024 => (l (ix2 r q) : EReal) := by
  refine (Ideal.multiReduction_maximumf_single l 0xFF800000#32 H.h3 (.inl rfl) rfl (ix1 r)).trans ?_
  rw [bot_f32]
  refine congrArg (Finset.fold max (⊥ : EReal) · Finset.univ) (funext fun q => ?_)
  exact congrArg l (lift_row H.h3 r q)

theorem rowSum_apply (H : FQ) (l : FVec Ideal (M2 4096 1024) .f32) (r : Fin 4096) :
    rowSum H l (ix1 r) = ∑ q : Fin 1024, (l (ix2 r q) : EReal) := by
  refine (Ideal.multiReduction_add_single l 0x00000000#32 H.h3 (.inl rfl) rfl (ix1 r)).trans ?_
  exact Finset.sum_congr rfl fun q _ => congrArg l (lift_row H.h3 r q)

theorem kexp_apply (H : FQ) (l : FVec Ideal (M2 4096 1024) .f32) (r : Fin 4096) (m : Fin 1024) :
    kexp H l (ix2 r m) = Ideal.exp ((l (ix2 r m) : EReal) - Finset.univ.fold max ⊥ fun q : Fin 1024 => (l (ix2 r q) : EReal)) := by
  show Ideal.exp ((l (ix2 r m) : EReal) - spread H _ (ix2 r m)) = _
  rw [spread_apply, rowMax_apply]

/-- The quantiser of a block, its row read as the mathematics. -/
theorem row_kquant (H : FQ) (y : FVec Ideal (B3 32) .f32) (code : FVec Ideal C2 .f32) (codet : FVec Ideal (M2 1024 32) .f32)
    (cn : FVec Ideal (M2 1 1024) .f32) (C : Fin 32 → Fin 1024 → EReal) (hC : ∀ i m, code (ix2 i m) = C i m)
    (hCt : ∀ i m, codet (ix2 m i) = C i m) (hcn : ∀ m, cn (ix2 0 m) = ∑ i, C i m * C i m) (r : Fin 8) :
    row (kquant H y code codet cn) r = quant C (row y r) := by
  funext c t
  have hl : ∀ m : Fin 1024, klogit H y code cn (ix2 ⟨r.val * 512 + t.val, by omega⟩ m) = logit C (fun i => row y r i t) m := by
    intro m
    unfold logit
    show (Scalar.ofBits .f32 0x40000000#32 : Ideal .f32) * _ - broadcastTo (M2 4096 1024) cn H.h2 _ = _
    rw [two_f32, Ideal.matmul_plain_apply]
    have hz : (constant (M2 4096 1024) .f32 0x00000000#32 : FVec Ideal (M2 4096 1024) .f32)
        (ix2 ⟨r.val * 512 + t.val, by omega⟩ m) = (0 : EReal) := Ideal.ofBits_zero_f32
    rw [hz, zero_add]
    congr 1
    · congr 1
      refine Finset.sum_congr rfl fun i _ => ?_
      rw [flat_apply, hC]; rfl
    · refine (broadcastTo_apply cn H.h2 _ (ix2 0 m) ?_).trans (hcn m)
      intro a; fin_cases a
      · rfl
      · show m.val = if (1024 : ℕ) = 1 then 0 else m.val; rw [if_neg (by decide)]
  unfold quant
  show kquant H y code codet cn (ix3 r t c) = _
  unfold kquant
  rw [unflat_apply, Ideal.matmul_plain_apply]
  have hz : (constant (M2 4096 32) .f32 0x00000000#32 : FVec Ideal (M2 4096 32) .f32)
      (ix2 ⟨r.val * 512 + t.val, by omega⟩ c) = (0 : EReal) := Ideal.ofBits_zero_f32
  rw [hz, zero_add]
  refine Finset.sum_congr rfl fun m _ => ?_
  have e2 : (truncf .bf16 codet H.hb : FVec Ideal (M2 1024 32) .bf16) (ix2 m c) = C c m := hCt c m
  rw [e2]
  congr 1
  unfold soft
  show Ideal.div (kexp H (klogit H y code cn) (ix2 ⟨r.val * 512 + t.val, by omega⟩ m))
    (spread H _ (ix2 ⟨r.val * 512 + t.val, by omega⟩ m)) = _
  rw [spread_apply, rowSum_apply]
  simp only [kexp_apply, hl]

end Cert.Quant

end
-- ==== Proof.Net.lean ====
module

public import proofs.«01_k».proof.Proof.Quant

@[expose] public section

noncomputable section

/-! The whole network on one batch member, over the extended reals: encoder, quantiser, decoder, dense layer. -/

namespace Cert.Net

open Idealize.ShloMosaic Cert.KConv Cert.Quant

/-- Filters. -/
abbrev Wt (co ci K : ℕ) := Fin co → Fin ci → Fin K → EReal

/-- The encoder. -/
def enc (w1 : Wt 5 1 3) (b1 : Fin 5 → EReal) (w2 : Wt 10 5 5) (b2 : Fin 10 → EReal) (w3 : Wt 64 10 7) (b3 : Fin 64 → EReal)
    (x : Fin 1 → Fin 512 → EReal) : Fin 64 → Fin 512 → EReal :=
  tanhs (conv 3 w3 b3 (relu (conv 2 w2 b2 (relu (conv 1 w1 b1 x)))))

/-- Thirty-two of the encoder's channels, from `off`. -/
def half (off : ℕ) (h : off + 32 ≤ 64) (x : Fin 64 → Fin 512 → EReal) : Fin 32 → Fin 512 → EReal :=
  fun i t => x ⟨off + i.val, by omega⟩ t

/-- A decoder. -/
def dec (w1 : Wt 5 32 7) (b1 : Fin 5 → EReal) (w2 : Wt 10 5 5) (b2 : Fin 10 → EReal) (w3 : Wt 32 10 3) (b3 : Fin 32 → EReal)
    (x : Fin 32 → Fin 512 → EReal) : Fin 32 → Fin 512 → EReal :=
  relu (conv 1 w3 b3 (relu (conv 2 w2 b2 (relu (conv 3 w1 b1 x)))))

/-- The dense layer's output `n`. -/
def dense (W : Fin 512 → Fin 32 → Fin 512 → EReal) (B : Fin 512 → EReal) (y : Fin 32 → Fin 512 → EReal) (n : Fin 512) : EReal :=
  Ideal.tanh ((∑ c, ∑ t, y c t * W n c t) + B n)

/-- A hyperbolic tangent is a real number. -/
theorem tanh_real (x : EReal) : ∃ a : ℝ, Ideal.tanh x = (a : EReal) := by
  induction x with
  | bot => exact ⟨-1, by rw [Ideal.tanh_bot]; rfl⟩
  | top => exact ⟨1, by rw [Ideal.tanh_top]; rfl⟩
  | coe a => exact ⟨Real.tanh a, rfl⟩

end Cert.Net

end
-- ==== Proof.KBlock.lean ====
module

public import proofs.«01_k».proof.Proof.Gen.KernelIdeal.Frame
public import proofs.«01_k».proof.Proof.Net

@[expose] public section

noncomputable section

/-! The first kernel call's body on a block of eight batch members, read row by row as the network up to the dense layer. -/

namespace Cert.KBlock

open Idealize.ShloMosaic Idealize.ShloMosaic.ValueIdx Cert.KernelIdeal Cert.KernelIdeal.Gen
open Cert.KConv Cert.Quant Cert.Net

theorem f_enc1 : F3 1 5 3 := by constructor <;> decide
theorem f_mid : F5 5 10 25 := by constructor <;> decide
theorem f_enc3 : F7 10 64 70 := by constructor <;> decide
theorem f_dec1 : F7 32 5 224 := by constructor <;> decide
theorem f_dec3 : F3 10 32 30 := by constructor <;> decide
theorem f_q : FQ := by constructor <;> decide
theorem self1 : (B3 1).ShapeCasts (B3 1) := by decide
theorem slice_half (off : ℕ) (ho : off + 32 ≤ 64) : (B3 64).Slices ![0, 0, off] (B3 32) :=
  ⟨rfl, fun a => by fin_cases a <;> simp <;> omega⟩

/-- The encoder of a block. -/
def kenc (x : FVec Ideal (B3 1) .f32) (w1 : FVec Ideal (M2 3 5) .f32) (b1 : FVec Ideal (V3 5) .f32) (w2 : FVec Ideal (M2 25 10) .f32)
    (b2 : FVec Ideal (V3 10) .f32) (w3 : FVec Ideal (M2 70 64) .f32) (b3 : FVec Ideal (V3 64) .f32) : FVec Ideal (B3 64) .f32 :=
  tanh (kconv7 f_enc3 (krelu (kconv5 f_mid (krelu (kconv3 f_enc1 (shapeCast (B3 1) x self1) w1 b1)) w2 b2)) w3 b3)

theorem kenc_eq (x : FVec Ideal (B3 1) .f32) (w1 : FVec Ideal (M2 3 5) .f32) (b1 : FVec Ideal (V3 5) .f32) (w2 : FVec Ideal (M2 25 10) .f32)
    (b2 : FVec Ideal (V3 10) .f32) (w3 : FVec Ideal (M2 70 64) .f32) (b3 : FVec Ideal (V3 64) .f32) :
    k0_pay3 (F := Ideal) (k0_pay2 (F := Ideal) x w1 b1 w2) b2 w3 b3 = kenc x w1 b1 w2 b2 w3 b3 := rfl

theorem row_kenc (x : FVec Ideal (B3 1) .f32) (w1 : FVec Ideal (M2 3 5) .f32) (b1 : FVec Ideal (V3 5) .f32) (w2 : FVec Ideal (M2 25 10) .f32)
    (b2 : FVec Ideal (V3 10) .f32) (w3 : FVec Ideal (M2 70 64) .f32) (b3 : FVec Ideal (V3 64) .f32) (r : Fin 8) :
    row (kenc x w1 b1 w2 b2 w3 b3) r = enc (colW w1 f_enc1.hn) (rowB b1) (colW w2 f_mid.hn) (rowB b2) (colW w3 f_enc3.hn) (rowB b3)
      (row x r) := by
  have e : ∀ y : FVec Ideal (B3 64) .f32, row (tanh y) r = tanhs (row y r) := fun _ => rfl
  unfold kenc
  rw [e, row_kconv7, row_krelu, row_kconv5, row_krelu, row_kconv3, shapeCast_self]
  rfl

/-- A decoder of a block. -/
def kdec (q : FVec Ideal (B3 32) .f32) (w1 : FVec Ideal (M2 224 5) .f32) (b1 : FVec Ideal (V3 5) .f32) (w2 : FVec Ideal (M2 25 10) .f32)
    (b2 : FVec Ideal (V3 10) .f32) (w3 : FVec Ideal (M2 30 32) .f32) (b3 : FVec Ideal (V3 32) .f32) : FVec Ideal (B3 32) .f32 :=
  krelu (kconv3 f_dec3 (krelu (kconv5 f_mid (krelu (kconv7 f_dec1 q w1 b1)) w2 b2)) w3 b3)

theorem row_kdec (q : FVec Ideal (B3 32) .f32) (w1 : FVec Ideal (M2 224 5) .f32) (b1 : FVec Ideal (V3 5) .f32) (w2 : FVec Ideal (M2 25 10) .f32)
    (b2 : FVec Ideal (V3 10) .f32) (w3 : FVec Ideal (M2 30 32) .f32) (b3 : FVec Ideal (V3 32) .f32) (r : Fin 8) :
    row (kdec q w1 b1 w2 b2 w3 b3) r = dec (colW w1 f_dec1.hn) (rowB b1) (colW w2 f_mid.hn) (rowB b2) (colW w3 f_dec3.hn) (rowB b3)
      (row q r) := by
  unfold kdec
  rw [row_krelu, row_kconv3, row_krelu, row_kconv5, row_krelu, row_kconv7]
  rfl

variable (h : FVec Ideal (B3 64) .f32) (code : FVec Ideal C2 .f32) (codet : FVec Ideal (M2 1024 32) .f32) (cn : FVec Ideal (M2 1 1024) .f32)
  (w1 : FVec Ideal (M2 224 5) .f32) (b1 : FVec Ideal (V3 5) .f32) (w2 : FVec Ideal (M2 25 10) .f32)
  (b2 : FVec Ideal (V3 10) .f32) (w3 : FVec Ideal (M2 30 32) .f32) (b3 : FVec Ideal (V3 32) .f32)

theorem kdec1_eq : k0_pay8 (F := Ideal) (k0_pay7 (F := Ideal) (k0_pay6 (F := Ideal) h code codet cn w1) b1 w2 b2 w3) b3
    = kdec (kquant f_q (extractStridedSlice (B3 32) ![0, 0, 0] h (slice_half 0 (by decide))) code codet cn) w1 b1 w2 b2 w3 b3 := rfl

theorem kdec2_eq : k0_pay1 (F := Ideal) (k0_pay15 (F := Ideal) (k0_pay9 (F := Ideal) h code codet cn) (k0_pay10 (F := Ideal) h code codet cn)
      (k0_pay11 (F := Ideal) h code codet cn) (k0_pay12 (F := Ideal) h code codet cn) (k0_pay13 (F := Ideal) h code codet cn)
      (k0_pay14 (F := Ideal) h code codet cn) w1 b1 w2 b2) (k0_pay16 (F := Ideal)) w3 b3
    = kdec (kquant f_q (extractStridedSlice (B3 32) ![0, 0, 32] h (slice_half 32 (by decide))) code codet cn) w1 b1 w2 b2 w3 b3 := rfl

theorem row_half (off : ℕ) (ho : off + 32 ≤ 64) (hs : (B3 64).Slices ![0, 0, off] (B3 32)) (r : Fin 8) :
    row (extractStridedSlice (B3 32) ![0, 0, off] h hs) r = half off ho (row h r) := by
  funext i t
  refine extractStridedSlice_apply _ h hs (ix3 r t i) (ix3 r t ⟨off + i.val, by omega⟩) ?_
  intro a; fin_cases a
  · show r.val = 0 + r.val; omega
  · show t.val = 0 + t.val; omega
  · rfl

/-- The squared lengths of the code's columns. -/
theorem norms_apply (m : Fin 1024) : k0_pay5 (F := Ideal) code (ix2 0 m) = ∑ i : Fin 32, (code (ix2 i m) : EReal) * code (ix2 i m) := by
  unfold k0_pay5
  refine (shapeCast_apply _ shapeCasts_S1024_S1x1024 _ (ix1 m) ?_).trans ?_
  · rw [Shape.rowMajor_val_one, Shape.rowMajor_val_two]
    show m.val = 0 * 1024 + m.val; omega
  · refine (Ideal.multiReduction_add_single _ 0x00000000#32 reduces_S32x1024_S1024 (.inl rfl) rfl (ix1 m)).trans ?_
    refine Finset.sum_congr rfl fun i _ => ?_
    have e : reduces_S32x1024_S1024.lift (ix1 m) i = ix2 i m := by
      funext a; apply Fin.ext; fin_cases a <;> rfl
    exact congrArg (fun j => (code j : EReal) * code j) e

end Cert.KBlock

end
-- ==== Proof.KOut.lean ====
module

public import proofs.«01_k».proof.Proof.KBlock

@[expose] public section

noncomputable section

/-! What the first kernel call leaves in its two output blocks, row by row. -/

namespace Cert.KOut

open Idealize.ShloMosaic Idealize.ShloMosaic.ValueIdx Cert.KernelIdeal Cert.KernelIdeal.Gen
open Cert.KConv Cert.Quant Cert.Net Cert.KBlock

theorem z2 : (![0, 0] : Fin 2 → ℕ) = fun _ => 0 := by funext a; fin_cases a <;> rfl
theorem z3 : (![0, 0, 0] : Fin 3 → ℕ) = fun _ => 0 := by funext a; fin_cases a <;> rfl

variable (x0 : FVec Ideal S8x512x1 .f32) (x1 : FVec Ideal S3x5 .f32) (x2 : FVec Ideal S1x1x5 .f32) (x3 : FVec Ideal S25x10 .f32)
  (x4 : FVec Ideal S1x1x10 .f32) (x5 : FVec Ideal S70x64 .f32) (x6 : FVec Ideal S1x1x64 .f32) (x7 : FVec Ideal S224x5 .f32)
  (x8 : FVec Ideal S1x1x5 .f32) (x9 : FVec Ideal S25x10 .f32) (x10 : FVec Ideal S1x1x10 .f32) (x11 : FVec Ideal S30x32 .f32)
  (x12 : FVec Ideal S1x1x32 .f32) (x13 : FVec Ideal S224x5 .f32) (x14 : FVec Ideal S1x1x5 .f32) (x15 : FVec Ideal S25x10 .f32)
  (x16 : FVec Ideal S1x1x10 .f32) (x17 : FVec Ideal S30x32 .f32) (x18 : FVec Ideal S1x1x32 .f32) (x19 : FVec Ideal S32x1024 .f32)
  (x20 : FVec Ideal S1024x32 .f32)

theorem out21_eq : out0_21 (F := Ideal) x0 x1 x2 x3 x4 x5 x6 x7 x8 x9 x10 x11 x12 x13 x14 x15 x16 x17 x18 x19 x20
    = kdec (kquant f_q (extractStridedSlice (B3 32) ![0, 0, 0] (kenc x0 x1 x2 x3 x4 x5 x6) (slice_half 0 (by decide))) x19 x20
      (k0_pay5 (F := Ideal) x19)) x7 x8 x9 x10 x11 x12 := by
  unfold out0_21 k0_pay19 k0_pay18 k0_pay17
  rw [View.canon_unit_zero (S := S8x512x32) z3, kdec1_eq, kenc_eq]
  simp only [View.ld_unit_zero (S := S8x512x1) z3, View.ld_unit_zero (S := S3x5) z2, View.ld_unit_zero (S := S1x1x5) z3,
    View.ld_unit_zero (S := S25x10) z2, View.ld_unit_zero (S := S1x1x10) z3, View.ld_unit_zero (S := S70x64) z2,
    View.ld_unit_zero (S := S1x1x64) z3, View.ld_unit_zero (S := S32x1024) z2, View.ld_unit_zero (S := S1024x32) z2,
    View.ld_unit_zero (S := S224x5) z2, View.ld_unit_zero (S := S30x32) z2, View.ld_unit_zero (S := S1x1x32) z3]
  unfold k0_pay4
  rw [shapeCast_self]

theorem out22_eq : out0_22 (F := Ideal) x0 x1 x2 x3 x4 x5 x6 x7 x8 x9 x10 x11 x12 x13 x14 x15 x16 x17 x18 x19 x20
    = kdec (kquant f_q (extractStridedSlice (B3 32) ![0, 0, 32] (kenc x0 x1 x2 x3 x4 x5 x6) (slice_half 32 (by decide))) x19 x20
      (k0_pay5 (F := Ideal) x19)) x13 x14 x15 x16 x17 x18 := by
  unfold out0_22 k0_pay19 k0_pay18 k0_pay17
  rw [View.canon_unit_zero (S := S8x512x32) z3, kdec2_eq, kenc_eq]
  simp only [View.ld_unit_zero (S := S8x512x1) z3, View.ld_unit_zero (S := S3x5) z2, View.ld_unit_zero (S := S1x1x5) z3,
    View.ld_unit_zero (S := S25x10) z2, View.ld_unit_zero (S := S1x1x10) z3, View.ld_unit_zero (S := S70x64) z2,
    View.ld_unit_zero (S := S1x1x64) z3, View.ld_unit_zero (S := S32x1024) z2, View.ld_unit_zero (S := S1024x32) z2,
    View.ld_unit_zero (S := S224x5) z2, View.ld_unit_zero (S := S30x32) z2, View.ld_unit_zero (S := S1x1x32) z3]
  unfold k0_pay4
  rw [shapeCast_self]

/-- A decoded half of a block, row by row. -/
theorem row_net (off : ℕ) (ho : off + 32 ≤ 64) (w1 : FVec Ideal S224x5 .f32) (b1 : FVec Ideal S1x1x5 .f32) (w2 : FVec Ideal S25x10 .f32)
    (b2 : FVec Ideal S1x1x10 .f32) (w3 : FVec Ideal S30x32 .f32) (b3 : FVec Ideal S1x1x32 .f32)
    (hCt : ∀ (i : Fin 32) (m : Fin 1024), x20 (ix2 m i) = x19 (ix2 i m)) (r : Fin 8) :
    row (kdec (kquant f_q (extractStridedSlice (B3 32) ![0, 0, off] (kenc x0 x1 x2 x3 x4 x5 x6) (slice_half off ho)) x19 x20
      (k0_pay5 (F := Ideal) x19)) w1 b1 w2 b2 w3 b3) r
    = dec (colW w1 f_dec1.hn) (rowB b1) (colW w2 f_mid.hn) (rowB b2) (colW w3 f_dec3.hn) (rowB b3)
      (quant (fun i m => x19 (ix2 i m)) (half off ho (enc (colW x1 f_enc1.hn) (rowB x2) (colW x3 f_mid.hn) (rowB x4)
        (colW x5 f_enc3.hn) (rowB x6) (row x0 r)))) := by
  rw [row_kdec, row_kquant f_q _ x19 x20 _ (fun i m => x19 (ix2 i m)) (fun _ _ => rfl) hCt (norms_apply x19),
    row_half, row_kenc]

end Cert.KOut

end
-- ==== Proof.Region0.lean ====
module

public import proofs.«01_k».proof.Proof.KOut
public import Idealize.ShloMosaic.Lib.Pipeline.ValueKit.Geometry

@[expose] public section

noncomputable section

/-! The first kernel call's two result arrays: every batch member encoded, quantised and decoded. -/

namespace Cert.Region0

open Idealize.ShloMosaic Idealize.ShloMosaic.TcCoe Idealize.ShloMosaic.ValueIdx Cert.KernelIdeal Cert.KernelIdeal.Gen
open Idealize.SL Idealize.ShloMosaic.Pipeline Idealize.SL.Sem
open Cert.KConv Cert.Quant Cert.Net Cert.KBlock Cert.KOut

variable (V : (c : Dev nD) → (b : Ref sig .tc) → Buf (Elt Ideal) ((c : Thread nD τ).loc b)) (c : Dev nD)

theorem idx_x : ∀ t : Fin cfg0.N, win0_0.index t = ![t.val, 0, 0] := (by decide +kernel : ∀ t : Fin grid0.N, _)
theorem idx_21 : ∀ t : Fin cfg0.N, win0_21.index t = ![t.val, 0, 0] := (by decide +kernel : ∀ t : Fin grid0.N, _)
theorem idx_22 : ∀ t : Fin cfg0.N, win0_22.index t = ![t.val, 0, 0] := (by decide +kernel : ∀ t : Fin grid0.N, _)

theorem const1 (t : Fin cfg0.N) : (iblk0 V c 1 t : FVec Ideal S3x5 .f32) = V c main_call0_v2 := by
  have hz : (fun a => win0_1.index t a * main_call0_v2.ty.shape.size a) = fun _ => 0 := funext fun a => by fin_cases a <;> rfl
  exact Memref.read_access_unit_zero (Elt Ideal) main_call0_v2 hz (fun a => by rw [congrFun hz a]; simp) (V c main_call0_v2)
theorem const2 (t : Fin cfg0.N) : (iblk0 V c 2 t : FVec Ideal S1x1x5 .f32) = V c main_call0_v3 := by
  have hz : (fun a => win0_2.index t a * main_call0_v3.ty.shape.size a) = fun _ => 0 := funext fun a => by fin_cases a <;> rfl
  exact Memref.read_access_unit_zero (Elt Ideal) main_call0_v3 hz (fun a => by rw [congrFun hz a]; simp) (V c main_call0_v3)
theorem const3 (t : Fin cfg0.N) : (iblk0 V c 3 t : FVec Ideal S25x10 .f32) = V c main_call0_v5 := by
  have hz : (fun a => win0_3.index t a * main_call0_v5.ty.shape.size a) = fun _ => 0 := funext fun a => by fin_cases a <;> rfl
  exact Memref.read_access_unit_zero (Elt Ideal) main_call0_v5 hz (fun a => by rw [congrFun hz a]; simp) (V c main_call0_v5)
theorem const4 (t : Fin cfg0.N) : (iblk0 V c 4 t : FVec Ideal S1x1x10 .f32) = V c main_call0_v6 := by
  have hz : (fun a => win0_4.index t a * main_call0_v6.ty.shape.size a) = fun _ => 0 := funext fun a => by fin_cases a <;> rfl
  exact Memref.read_access_unit_zero (Elt Ideal) main_call0_v6 hz (fun a => by rw [congrFun hz a]; simp) (V c main_call0_v6)
theorem const5 (t : Fin cfg0.N) : (iblk0 V c 5 t : FVec Ideal S70x64 .f32) = V c main_call0_v8 := by
  have hz : (fun a => win0_5.index t a * main_call0_v8.ty.shape.size a) = fun _ => 0 := funext fun a => by fin_cases a <;> rfl
  exact Memref.read_access_unit_zero (Elt Ideal) main_call0_v8 hz (fun a => by rw [congrFun hz a]; simp) (V c main_call0_v8)
theorem const6 (t : Fin cfg0.N) : (iblk0 V c 6 t : FVec Ideal S1x1x64 .f32) = V c main_call0_v9 := by
  have hz : (fun a => win0_6.index t a * main_call0_v9.ty.shape.size a) = fun _ => 0 := funext fun a => by fin_cases a <;> rfl
  exact Memref.read_access_unit_zero (Elt Ideal) main_call0_v9 hz (fun a => by rw [congrFun hz a]; simp) (V c main_call0_v9)
theorem const7 (t : Fin cfg0.N) : (iblk0 V c 7 t : FVec Ideal S224x5 .f32) = V c main_call0_v11 := by
  have hz : (fun a => win0_7.index t a * main_call0_v11.ty.shape.size a) = fun _ => 0 := funext fun a => by fin_cases a <;> rfl
  exact Memref.read_access_unit_zero (Elt Ideal) main_call0_v11 hz (fun a => by rw [congrFun hz a]; simp) (V c main_call0_v11)
theorem const8 (t : Fin cfg0.N) : (iblk0 V c 8 t : FVec Ideal S1x1x5 .f32) = V c main_call0_v12 := by
  have hz : (fun a => win0_8.index t a * main_call0_v12.ty.shape.size a) = fun _ => 0 := funext fun a => by fin_cases a <;> rfl
  exact Memref.read_access_unit_zero (Elt Ideal) main_call0_v12 hz (fun a => by rw [congrFun hz a]; simp) (V c main_call0_v12)
theorem const9 (t : Fin cfg0.N) : (iblk0 V c 9 t : FVec Ideal S25x10 .f32) = V c main_call0_v14 := by
  have hz : (fun a => win0_9.index t a * main_call0_v14.ty.shape.size a) = fun _ => 0 := funext fun a => by fin_cases a <;> rfl
  exact Memref.read_access_unit_zero (Elt Ideal) main_call0_v14 hz (fun a => by rw [congrFun hz a]; simp) (V c main_call0_v14)
theorem const10 (t : Fin cfg0.N) : (iblk0 V c 10 t : FVec Ideal S1x1x10 .f32) = V c main_call0_v15 := by
  have hz : (fun a => win0_10.index t a * main_call0_v15.ty.shape.size a) = fun _ => 0 := funext fun a => by fin_cases a <;> rfl
  exact Memref.read_access_unit_zero (Elt Ideal) main_call0_v15 hz (fun a => by rw [congrFun hz a]; simp) (V c main_call0_v15)
theorem const11 (t : Fin cfg0.N) : (iblk0 V c 11 t : FVec Ideal S30x32 .f32) = V c main_call0_v17 := by
  have hz : (fun a => win0_11.index t a * main_call0_v17.ty.shape.size a) = fun _ => 0 := funext fun a => by fin_cases a <;> rfl
  exact Memref.read_access_unit_zero (Elt Ideal) main_call0_v17 hz (fun a => by rw [congrFun hz a]; simp) (V c main_call0_v17)
theorem const12 (t : Fin cfg0.N) : (iblk0 V c 12 t : FVec Ideal S1x1x32 .f32) = V c main_call0_v18 := by
  have hz : (fun a => win0_12.index t a * main_call0_v18.ty.shape.size a) = fun _ => 0 := funext fun a => by fin_cases a <;> rfl
  exact Memref.read_access_unit_zero (Elt Ideal) main_call0_v18 hz (fun a => by rw [congrFun hz a]; simp) (V c main_call0_v18)
theorem const13 (t : Fin cfg0.N) : (iblk0 V c 13 t : FVec Ideal S224x5 .f32) = V c main_call0_v20 := by
  have hz : (fun a => win0_13.index t a * main_call0_v20.ty.shape.size a) = fun _ => 0 := funext fun a => by fin_cases a <;> rfl
  exact Memref.read_access_unit_zero (Elt Ideal) main_call0_v20 hz (fun a => by rw [congrFun hz a]; simp) (V c main_call0_v20)
theorem const14 (t : Fin cfg0.N) : (iblk0 V c 14 t : FVec Ideal S1x1x5 .f32) = V c main_call0_v21 := by
  have hz : (fun a => win0_14.index t a * main_call0_v21.ty.shape.size a) = fun _ => 0 := funext fun a => by fin_cases a <;> rfl
  exact Memref.read_access_unit_zero (Elt Ideal) main_call0_v21 hz (fun a => by rw [congrFun hz a]; simp) (V c main_call0_v21)
theorem const15 (t : Fin cfg0.N) : (iblk0 V c 15 t : FVec Ideal S25x10 .f32) = V c main_call0_v23 := by
  have hz : (fun a => win0_15.index t a * main_call0_v23.ty.shape.size a) = fun _ => 0 := funext fun a => by fin_cases a <;> rfl
  exact Memref.read_access_unit_zero (Elt Ideal) main_call0_v23 hz (fun a => by rw [congrFun hz a]; simp) (V c main_call0_v23)
theorem const16 (t : Fin cfg0.N) : (iblk0 V c 16 t : FVec Ideal S1x1x10 .f32) = V c main_call0_v24 := by
  have hz : (fun a => win0_16.index t a * main_call0_v24.ty.shape.size a) = fun _ => 0 := funext fun a => by fin_cases a <;> rfl
  exact Memref.read_access_unit_zero (Elt Ideal) main_call0_v24 hz (fun a => by rw [congrFun hz a]; simp) (V c main_call0_v24)
theorem const17 (t : Fin cfg0.N) : (iblk0 V c 17 t : FVec Ideal S30x32 .f32) = V c main_call0_v26 := by
  have hz : (fun a => win0_17.index t a * main_call0_v26.ty.shape.size a) = fun _ => 0 := funext fun a => by fin_cases a <;> rfl
  exact Memref.read_access_unit_zero (Elt Ideal) main_call0_v26 hz (fun a => by rw [congrFun hz a]; simp) (V c main_call0_v26)
theorem const18 (t : Fin cfg0.N) : (iblk0 V c 18 t : FVec Ideal S1x1x32 .f32) = V c main_call0_v27 := by
  have hz : (fun a => win0_18.index t a * main_call0_v27.ty.shape.size a) = fun _ => 0 := funext fun a => by fin_cases a <;> rfl
  exact Memref.read_access_unit_zero (Elt Ideal) main_call0_v27 hz (fun a => by rw [congrFun hz a]; simp) (V c main_call0_v27)
theorem const19 (t : Fin cfg0.N) : (iblk0 V c 19 t : FVec Ideal S32x1024 .f32) = V c main_arg21 := by
  have hz : (fun a => win0_19.index t a * main_arg21.ty.shape.size a) = fun _ => 0 := funext fun a => by fin_cases a <;> rfl
  exact Memref.read_access_unit_zero (Elt Ideal) main_arg21 hz (fun a => by rw [congrFun hz a]; simp) (V c main_arg21)
theorem const20 (t : Fin cfg0.N) : (iblk0 V c 20 t : FVec Ideal S1024x32 .f32) = V c main_call0_v28 := by
  have hz : (fun a => win0_20.index t a * main_call0_v28.ty.shape.size a) = fun _ => 0 := funext fun a => by fin_cases a <;> rfl
  exact Memref.read_access_unit_zero (Elt Ideal) main_call0_v28 hz (fun a => by rw [congrFun hz a]; simp) (V c main_call0_v28)

/-- The frames of batch member `b` as the call finds them. -/
def xrow (b : Fin 256) : Fin 1 → Fin 512 → EReal := fun i s => (V c main_call0_v0 : FVec Ideal S256x512x1 .f32) (ix3 b s i)

theorem row_x (t : Fin cfg0.N) (r : Fin 8) (b : Fin 256) (hb : b.val = t.val * 8 + r.val) :
    row (iblk0 V c 0 t : FVec Ideal S8x512x1 .f32) r = xrow V c b := by
  funext i s
  unfold xrow
  show (iblk0 V c 0 t : FVec Ideal S8x512x1 .f32) (ix3 r s i) = _
  blk_simp [iblk0]
  refine congrArg (V c main_call0_v0 : FVec Ideal S256x512x1 .f32) ?_
  funext a; apply Fin.ext
  fin_cases a
  · show ((win0_0.blk t).view.emb (ix3 r s i) 0 : ℕ) = b.val
    blk_simp [idx_x t]
    show t.val * 8 + r.val = b.val
    omega
  · show ((win0_0.blk t).view.emb (ix3 r s i) 1 : ℕ) = s.val
    blk_simp [idx_x t]
    rfl
  · show ((win0_0.blk t).view.emb (ix3 r s i) 2 : ℕ) = i.val
    blk_simp [idx_x t]

/-- The encoded batch member `b`. -/
def hrow (b : Fin 256) : Fin 64 → Fin 512 → EReal :=
  enc (colW (V c main_call0_v2 : FVec Ideal S3x5 .f32) f_enc1.hn) (rowB (V c main_call0_v3 : FVec Ideal S1x1x5 .f32))
    (colW (V c main_call0_v5 : FVec Ideal S25x10 .f32) f_mid.hn) (rowB (V c main_call0_v6 : FVec Ideal S1x1x10 .f32))
    (colW (V c main_call0_v8 : FVec Ideal S70x64 .f32) f_enc3.hn) (rowB (V c main_call0_v9 : FVec Ideal S1x1x64 .f32)) (xrow V c b)

/-- One half of it quantised. -/
def qrow (off : ℕ) (ho : off + 32 ≤ 64) (b : Fin 256) : Fin 32 → Fin 512 → EReal :=
  quant (fun i m => (V c main_arg21 : FVec Ideal S32x1024 .f32) (ix2 i m)) (half off ho (hrow V c b))

/-- The first half decoded. -/
def y1 (b : Fin 256) : Fin 32 → Fin 512 → EReal :=
  dec (colW (V c main_call0_v11 : FVec Ideal S224x5 .f32) f_dec1.hn) (rowB (V c main_call0_v12 : FVec Ideal S1x1x5 .f32))
    (colW (V c main_call0_v14 : FVec Ideal S25x10 .f32) f_mid.hn) (rowB (V c main_call0_v15 : FVec Ideal S1x1x10 .f32))
    (colW (V c main_call0_v17 : FVec Ideal S30x32 .f32) f_dec3.hn) (rowB (V c main_call0_v18 : FVec Ideal S1x1x32 .f32)) (qrow V c 0 (by decide) b)

/-- The second half decoded. -/
def y2 (b : Fin 256) : Fin 32 → Fin 512 → EReal :=
  dec (colW (V c main_call0_v20 : FVec Ideal S224x5 .f32) f_dec1.hn) (rowB (V c main_call0_v21 : FVec Ideal S1x1x5 .f32))
    (colW (V c main_call0_v23 : FVec Ideal S25x10 .f32) f_mid.hn) (rowB (V c main_call0_v24 : FVec Ideal S1x1x10 .f32))
    (colW (V c main_call0_v26 : FVec Ideal S30x32 .f32) f_dec3.hn) (rowB (V c main_call0_v27 : FVec Ideal S1x1x32 .f32)) (qrow V c 32 (by decide) b)

theorem final21 (hCt : ∀ (i : Fin 32) (m : Fin 1024), (V c main_call0_v28 : FVec Ideal S1024x32 .f32) (ix2 m i) = (V c main_arg21 : FVec Ideal S32x1024 .f32) (ix2 i m)) :
    (dat0 V c).arrAt 21 cfg0.N = (fun i => y1 V c (i 0) (i 2) (i 1) : FVec Ideal S256x512x32 .f32) := by
  refine (dat0 V c).arrAt_eq_of_covers 21 _ (by decide +kernel) fun t hf y => ?_
  blk_simp
  rw [after0_21, out21_eq, const1, const2, const3, const4, const5, const6, const19, const20, const7, const8, const9, const10, const11, const12]
  have e0 : ((win0_21.blk t).view.emb y 0 : ℕ) = t.val * 8 + (y 0 : ℕ) := by blk_simp [idx_21 t]
  have e1 : (win0_21.blk t).view.emb y 1 = y 1 := by
    apply Fin.ext; blk_simp [idx_21 t]
  have e2 : (win0_21.blk t).view.emb y 2 = y 2 := by
    apply Fin.ext; blk_simp [idx_21 t]
  have hr := row_net (iblk0 V c 0 t) (V c main_call0_v2) (V c main_call0_v3) (V c main_call0_v5) (V c main_call0_v6) (V c main_call0_v8) (V c main_call0_v9) (V c main_arg21) (V c main_call0_v28)
    0 (by decide) (V c main_call0_v11) (V c main_call0_v12) (V c main_call0_v14) (V c main_call0_v15) (V c main_call0_v17) (V c main_call0_v18) hCt (y 0)
  rw [row_x V c t (y 0) ((win0_21.blk t).view.emb y 0) e0] at hr
  refine (congrArg _ (?_ : y = ix3 (y 0) (y 1) (y 2))).trans ((congrFun (congrFun hr (y 2)) (y 1)).trans ?_)
  · funext a; fin_cases a <;> rfl
  · rw [e1, e2]; rfl

theorem final22 (hCt : ∀ (i : Fin 32) (m : Fin 1024), (V c main_call0_v28 : FVec Ideal S1024x32 .f32) (ix2 m i) = (V c main_arg21 : FVec Ideal S32x1024 .f32) (ix2 i m)) :
    (dat0 V c).arrAt 22 cfg0.N = (fun i => y2 V c (i 0) (i 2) (i 1) : FVec Ideal S256x512x32 .f32) := by
  refine (dat0 V c).arrAt_eq_of_covers 22 _ (by decide +kernel) fun t hf y => ?_
  blk_simp
  rw [after0_22, out22_eq, const1, const2, const3, const4, const5, const6, const19, const20, const13, const14, const15, const16, const17, const18]
  have e0 : ((win0_22.blk t).view.emb y 0 : ℕ) = t.val * 8 + (y 0 : ℕ) := by blk_simp [idx_22 t]
  have e1 : (win0_22.blk t).view.emb y 1 = y 1 := by
    apply Fin.ext; blk_simp [idx_22 t]
  have e2 : (win0_22.blk t).view.emb y 2 = y 2 := by
    apply Fin.ext; blk_simp [idx_22 t]
  have hr := row_net (iblk0 V c 0 t) (V c main_call0_v2) (V c main_call0_v3) (V c main_call0_v5) (V c main_call0_v6) (V c main_call0_v8) (V c main_call0_v9) (V c main_arg21) (V c main_call0_v28)
    32 (by decide) (V c main_call0_v20) (V c main_call0_v21) (V c main_call0_v23) (V c main_call0_v24) (V c main_call0_v26) (V c main_call0_v27) hCt (y 0)
  rw [row_x V c t (y 0) ((win0_22.blk t).view.emb y 0) e0] at hr
  refine (congrArg _ (?_ : y = ix3 (y 0) (y 1) (y 2))).trans ((congrFun (congrFun hr (y 2)) (y 1)).trans ?_)
  · funext a; fin_cases a <;> rfl
  · rw [e1, e2]; rfl

end Cert.Region0

end
-- ==== Proof.RefConv.lean ====
module

public import proofs.«01_k».proof.Proof.KConv
public import Idealize.ShloMosaic.Lib.KernelVsHost

@[expose] public section

noncomputable section

/-!
  The reference's convolutions: an input padded by zeros, one product per tap, the taps added in order, the bias, each
  read as `KConv.conv`.
-/

namespace Cert.RefConv

open Idealize.ShloMosaic Idealize.ShloMosaic.ValueIdx Cert.KConv

/-- A batch of channels by frames. -/
abbrev R3 (c T : ℕ) : Shape := ⟨3, ![256, c, T]⟩
/-- Output channels by batch by frames: a tap's product before its transpose. -/
abbrev D3 (co : ℕ) : Shape := ⟨3, ![co, 256, 512]⟩
/-- A filter. -/
abbrev W3 (co ci K : ℕ) : Shape := ⟨3, ![co, ci, K]⟩

variable {ci co K n T : ℕ}

/-- A batch member as channels by frames. -/
def mem (X : FVec Ideal (R3 n 512) .f32) (b : Fin 256) : Fin n → Fin 512 → EReal := fun i t => X (ix3 b i t)
/-- A filter as a function. -/
def wgt (w : FVec Ideal (W3 co ci K) .f32) : Fin co → Fin ci → Fin K → EReal := fun o i k => w (ix3 o i k)
/-- A bias as a function. -/
def bia (b : FVec Ideal ⟨1, ![co]⟩ .f32) : Fin co → EReal := fun o => b (ix1 o)

/-- The dimension numbers of one tap's product: a filter slice by a window, contracted over the input channels. -/
def tapDims (co ci : ℕ) (wf : DotDims.WF (M2 co ci) (R3 ci 512) (D3 co) [1] [1] [0] [0, 2] [] []) :
    DotDims (M2 co ci) (R3 ci 512) (D3 co) where
  lhsContracting := [1]
  rhsContracting := [1]
  lhsNonContracting := [0]
  rhsNonContracting := [0, 2]
  lhsBatch := []
  rhsBatch := []
  wf := wf

theorem tapDot_apply (wf : DotDims.WF (M2 co ci) (R3 ci 512) (D3 co) [1] [1] [0] [0, 2] [] [])
    (l : FVec Ideal (M2 co ci) .f32) (r : FVec Ideal (R3 ci 512) .f32) (o : Fin co) (b : Fin 256) (t : Fin 512) :
    Host.dotGeneral (tapDims co ci wf) none l r (ix3 o b t) = ∑ i : Fin ci, (l (ix2 o i) : EReal) * r (ix3 b i t) := by
  simp only [Host.dotGeneral]
  rw [Ideal.dotGeneral_apply, ← Equiv.sum_comp (contrEquiv1 (tapDims co ci wf) ci rfl rfl).symm]
  refine Finset.sum_congr rfl fun k _ => ?_
  have hk := contrEquiv1_symm_val (tapDims co ci wf) ci rfl rfl k
  have el : (tapDims co ci wf).lhsIdx (ix3 o b t) ((contrEquiv1 (tapDims co ci wf) ci rfl rfl).symm k) = ix2 o k := by
    funext a; apply Fin.ext
    match a with
    | ⟨0, _⟩ => rfl
    | ⟨1, _⟩ => exact hk
  have er : (tapDims co ci wf).rhsIdx (ix3 o b t) ((contrEquiv1 (tapDims co ci wf) ci rfl rfl).symm k) = ix3 b k t := by
    funext a; apply Fin.ext
    match a with
    | ⟨0, _⟩ => rfl
    | ⟨1, _⟩ => exact hk
    | ⟨2, _⟩ => rfl
  rw [el, er]

/-- The shape facts of one tap. -/
structure FT (ci co K T k : ℕ) : Prop where
  sx : (R3 ci T).Slices ![0, 0, k] (R3 ci 512)
  sw : (W3 co ci K).Slices ![0, 0, k] (W3 co ci 1)
  cw : (W3 co ci 1).ShapeCasts (M2 co ci)
  wf : DotDims.WF (M2 co ci) (R3 ci 512) (D3 co) [1] [1] [0] [0, 2] [] []
  tr : (D3 co).Transposes [1, 0, 2] (R3 co 512)

/-- One tap of a reference convolution over the padded input `P`. -/
def rtap (k : ℕ) (H : FT ci co K T k) (P : FVec Ideal (R3 ci T) .f32) (w : FVec Ideal (W3 co ci K) .f32) :
    FVec Ideal (R3 co 512) .f32 :=
  transpose (R3 co 512) [1, 0, 2] (Host.dotGeneral (tapDims co ci H.wf) none
    (shapeCast (M2 co ci) (extractStridedSlice (W3 co ci 1) ![0, 0, k] w H.sw) H.cw)
    (extractStridedSlice (R3 ci 512) ![0, 0, k] P H.sx)) H.tr

/-- The padded input, `p` zeros on either side. -/
def rpad (p : ℕ) (X : FVec Ideal (R3 ci 512) .f32) (hp : (R3 ci 512).Pads ![0, 0, p] ![0, 0, p] ![0, 0, 0] (R3 ci T))
    (hu : 0 < (⟨0, ![]⟩ : Shape).numel) : FVec Ideal (R3 ci T) .f32 :=
  pad (R3 ci T) ![0, 0, p] ![0, 0, p] ![0, 0, 0] X (sitofp .f32 (constantI ⟨0, ![]⟩ 32 0#32) : FVec Ideal ⟨0, ![]⟩ .f32) hp hu

theorem rpad_apply (p : ℕ) (X : FVec Ideal (R3 ci 512) .f32) (hp : (R3 ci 512).Pads ![0, 0, p] ![0, 0, p] ![0, 0, 0] (R3 ci T))
    (hu : 0 < (⟨0, ![]⟩ : Shape).numel) (b : Fin 256) (i : Fin ci) (k : ℕ) (t : Fin 512) (hk : t.val + k < T) :
    rpad p X hp hu (ix3 b i ⟨t.val + k, hk⟩) = tap (mem X b i) p k t := by
  unfold rpad tap
  by_cases h : p ≤ t.val + k ∧ t.val + k < 512 + p
  · rw [dif_pos h]
    refine pad_apply_of_inside _ _ _ X _ hp hu _ (ix3 b i ⟨t.val + k - p, by omega⟩) ?_
    intro a; fin_cases a
    · show b.val = 0 + b.val * (0 + 1); omega
    · show i.val = 0 + i.val * (0 + 1); omega
    · show t.val + k = p + (t.val + k - p) * (0 + 1); omega
  · rw [dif_neg h]
    refine (pad_apply_of_not_inside _ _ _ X _ hp hu _ (2 : Fin 3) ?_).trans ?_
    · rintro ⟨h1, -, h2⟩
      have h1' : p ≤ t.val + k := h1
      have h2' : (t.val + k - p) / (0 + 1) < 512 := h2
      rw [Nat.div_one] at h2'
      omega
    · show (((0#32 : BitVec 32).toInt : ℝ) : EReal) = 0
      simp

theorem rtap_apply (k : ℕ) (H : FT ci co K T k) (p : ℕ) (X : FVec Ideal (R3 ci 512) .f32)
    (hp : (R3 ci 512).Pads ![0, 0, p] ![0, 0, p] ![0, 0, 0] (R3 ci T)) (hu : 0 < (⟨0, ![]⟩ : Shape).numel)
    (w : FVec Ideal (W3 co ci K) .f32) (hkK : k < K) (hT : k + 512 ≤ T) (b : Fin 256) (o : Fin co) (t : Fin 512) :
    rtap k H (rpad p X hp hu) w (ix3 b o t) = ∑ i : Fin ci, wgt w o i ⟨k, hkK⟩ * tap (mem X b i) p k t := by
  unfold rtap
  refine (transpose_apply [1, 0, 2] _ H.tr (ix3 b o t) (ix3 o b t) ?_).trans ?_
  · intro a; fin_cases a <;> rfl
  rw [tapDot_apply]
  refine Finset.sum_congr rfl fun i _ => ?_
  congr 1
  · refine (shapeCast_apply _ H.cw _ (ix3 o i 0) ?_).trans ?_
    · rw [Shape.rowMajor_val_three, Shape.rowMajor_val_two]
      show (o.val * ci + i.val) * 1 + 0 = o.val * ci + i.val; omega
    · refine extractStridedSlice_apply _ w H.sw _ (ix3 o i ⟨k, hkK⟩) ?_
      intro a; fin_cases a
      · show o.val = 0 + o.val; omega
      · show i.val = 0 + i.val; omega
      · show k = k + 0; omega
  · refine (extractStridedSlice_apply _ _ H.sx _ (ix3 b i ⟨t.val + k, by omega⟩) ?_).trans (rpad_apply p X hp hu b i k t _)
    intro a; fin_cases a
    · show b.val = 0 + b.val; omega
    · show i.val = 0 + i.val; omega
    · show t.val + k = k + t.val; omega

/-- The bias of a reference convolution, spread over the batch and the frames. -/
def rbias (y : FVec Ideal (R3 co 512) .f32) (b : FVec Ideal ⟨1, ![co]⟩ .f32)
    (h1 : (⟨1, ![co]⟩ : Shape).BroadcastsInDim ⟨3, ![1, co, 1]⟩ ![1])
    (h2 : (⟨3, ![1, co, 1]⟩ : Shape).BroadcastsInDim (R3 co 512) ![0, 1, 2]) : FVec Ideal (R3 co 512) .f32 :=
  addf y (broadcastInDim (R3 co 512) ![0, 1, 2] h2 (broadcastInDim ⟨3, ![1, co, 1]⟩ ![1] h1 b))

theorem rbias_apply (y : FVec Ideal (R3 co 512) .f32) (b : FVec Ideal ⟨1, ![co]⟩ .f32)
    (h1 : (⟨1, ![co]⟩ : Shape).BroadcastsInDim ⟨3, ![1, co, 1]⟩ ![1])
    (h2 : (⟨3, ![1, co, 1]⟩ : Shape).BroadcastsInDim (R3 co 512) ![0, 1, 2]) (n : Fin 256) (o : Fin co) (t : Fin 512) :
    rbias y b h1 h2 (ix3 n o t) = (y (ix3 n o t) : EReal) + bia b o := by
  have ho := o.isLt
  show (y (ix3 n o t) : EReal) + broadcastInDim (s := ⟨3, ![1, co, 1]⟩) (R3 co 512) ![0, 1, 2] h2 _ (ix3 n o t) = _
  congr 1
  refine (broadcastInDim_apply _ h2 _ _ (ix3 0 o 0) ?_).trans (broadcastInDim_apply _ h1 b _ (ix1 o) ?_)
  · intro a; fin_cases a
    · rfl
    · show o.val = if co = 1 then 0 else o.val
      split <;> omega
    · rfl
  · intro a; fin_cases a
    show o.val = if co = 1 then 0 else o.val
    split <;> omega

/-- The rectifier of the reference. -/
def rrelu (y : FVec Ideal (R3 n 512) .f32) (h : (⟨0, ![]⟩ : Shape).BroadcastsInDim (R3 n 512) ![]) : FVec Ideal (R3 n 512) .f32 :=
  maximumf y (broadcastInDim (R3 n 512) ![] h (constant ⟨0, ![]⟩ .f32 0x00000000#32))

theorem mem_rrelu (y : FVec Ideal (R3 n 512) .f32) (h : (⟨0, ![]⟩ : Shape).BroadcastsInDim (R3 n 512) ![]) (b : Fin 256) :
    mem (rrelu y h) b = relu (mem y b) := by
  funext o t
  have e : broadcastInDim (R3 n 512) ![] h (constant ⟨0, ![]⟩ .f32 0x00000000#32 : FVec Ideal ⟨0, ![]⟩ .f32) (ix3 b o t)
      = (0 : EReal) :=
    (broadcastInDim_apply _ h _ _ ix0 (fun a => a.elim0)).trans Ideal.ofBits_zero_f32
  show max (y (ix3 b o t) : EReal) (broadcastInDim (s := ⟨0, ![]⟩) (R3 n 512) ![] h _ (ix3 b o t)) = _
  rw [e]; rfl

/-- The shape facts of a reference convolution. -/
structure FR (ci co K T p : ℕ) : Prop where
  hT : K + 511 = T
  hp : (R3 ci 512).Pads ![0, 0, p] ![0, 0, p] ![0, 0, 0] (R3 ci T)
  hu : 0 < (⟨0, ![]⟩ : Shape).numel
  ft : ∀ k, k < K → FT ci co K T k
  h1 : (⟨1, ![co]⟩ : Shape).BroadcastsInDim ⟨3, ![1, co, 1]⟩ ![1]
  h2 : (⟨3, ![1, co, 1]⟩ : Shape).BroadcastsInDim (R3 co 512) ![0, 1, 2]

/-- A reference convolution of three taps. -/
def rconv3 (H : FR ci co 3 T 1) (X : FVec Ideal (R3 ci 512) .f32) (w : FVec Ideal (W3 co ci 3) .f32)
    (b : FVec Ideal ⟨1, ![co]⟩ .f32) : FVec Ideal (R3 co 512) .f32 :=
  rbias (addf (addf (rtap 0 (H.ft 0 (by decide)) (rpad 1 X H.hp H.hu) w) (rtap 1 (H.ft 1 (by decide)) (rpad 1 X H.hp H.hu) w))
    (rtap 2 (H.ft 2 (by decide)) (rpad 1 X H.hp H.hu) w)) b H.h1 H.h2

theorem mem_rconv3 (H : FR ci co 3 T 1) (X : FVec Ideal (R3 ci 512) .f32) (w : FVec Ideal (W3 co ci 3) .f32)
    (b : FVec Ideal ⟨1, ![co]⟩ .f32) (n : Fin 256) : mem (rconv3 H X w b) n = conv 1 (wgt w) (bia b) (mem X n) := by
  have hT := H.hT
  funext o t
  unfold conv
  show rbias _ b H.h1 H.h2 (ix3 n o t) = _
  rw [rbias_apply, Fin.sum_univ_three]
  congr 1
  show ((rtap 0 _ _ w (ix3 n o t) : EReal) + rtap 1 _ _ w (ix3 n o t)) + rtap 2 _ _ w (ix3 n o t) = _
  rw [rtap_apply 0 _ 1 X H.hp H.hu w (by decide) (by omega), rtap_apply 1 _ 1 X H.hp H.hu w (by decide) (by omega),
    rtap_apply 2 _ 1 X H.hp H.hu w (by decide) (by omega)]
  rfl

/-- A reference convolution of five taps. -/
def rconv5 (H : FR ci co 5 T 2) (X : FVec Ideal (R3 ci 512) .f32) (w : FVec Ideal (W3 co ci 5) .f32)
    (b : FVec Ideal ⟨1, ![co]⟩ .f32) : FVec Ideal (R3 co 512) .f32 :=
  rbias (addf (addf (addf (addf (rtap 0 (H.ft 0 (by decide)) (rpad 2 X H.hp H.hu) w) (rtap 1 (H.ft 1 (by decide)) (rpad 2 X H.hp H.hu) w))
    (rtap 2 (H.ft 2 (by decide)) (rpad 2 X H.hp H.hu) w)) (rtap 3 (H.ft 3 (by decide)) (rpad 2 X H.hp H.hu) w))
    (rtap 4 (H.ft 4 (by decide)) (rpad 2 X H.hp H.hu) w)) b H.h1 H.h2

theorem mem_rconv5 (H : FR ci co 5 T 2) (X : FVec Ideal (R3 ci 512) .f32) (w : FVec Ideal (W3 co ci 5) .f32)
    (b : FVec Ideal ⟨1, ![co]⟩ .f32) (n : Fin 256) : mem (rconv5 H X w b) n = conv 2 (wgt w) (bia b) (mem X n) := by
  have hT := H.hT
  funext o t
  unfold conv
  show rbias _ b H.h1 H.h2 (ix3 n o t) = _
  rw [rbias_apply, Fin.sum_univ_five]
  congr 1
  show ((((rtap 0 _ _ w (ix3 n o t) : EReal) + rtap 1 _ _ w (ix3 n o t)) + rtap 2 _ _ w (ix3 n o t))
    + rtap 3 _ _ w (ix3 n o t)) + rtap 4 _ _ w (ix3 n o t) = _
  rw [rtap_apply 0 _ 2 X H.hp H.hu w (by decide) (by omega), rtap_apply 1 _ 2 X H.hp H.hu w (by decide) (by omega),
    rtap_apply 2 _ 2 X H.hp H.hu w (by decide) (by omega), rtap_apply 3 _ 2 X H.hp H.hu w (by decide) (by omega),
    rtap_apply 4 _ 2 X H.hp H.hu w (by decide) (by omega)]
  rfl

/-- A reference convolution of seven taps. -/
def rconv7 (H : FR ci co 7 T 3) (X : FVec Ideal (R3 ci 512) .f32) (w : FVec Ideal (W3 co ci 7) .f32)
    (b : FVec Ideal ⟨1, ![co]⟩ .f32) : FVec Ideal (R3 co 512) .f32 :=
  rbias (addf (addf (addf (addf (addf (addf (rtap 0 (H.ft 0 (by decide)) (rpad 3 X H.hp H.hu) w)
    (rtap 1 (H.ft 1 (by decide)) (rpad 3 X H.hp H.hu) w))
    (rtap 2 (H.ft 2 (by decide)) (rpad 3 X H.hp H.hu) w)) (rtap 3 (H.ft 3 (by decide)) (rpad 3 X H.hp H.hu) w))
    (rtap 4 (H.ft 4 (by decide)) (rpad 3 X H.hp H.hu) w)) (rtap 5 (H.ft 5 (by decide)) (rpad 3 X H.hp H.hu) w))
    (rtap 6 (H.ft 6 (by decide)) (rpad 3 X H.hp H.hu) w)) b H.h1 H.h2

theorem mem_rconv7 (H : FR ci co 7 T 3) (X : FVec Ideal (R3 ci 512) .f32) (w : FVec Ideal (W3 co ci 7) .f32)
    (b : FVec Ideal ⟨1, ![co]⟩ .f32) (n : Fin 256) : mem (rconv7 H X w b) n = conv 3 (wgt w) (bia b) (mem X n) := by
  have hT := H.hT
  funext o t
  unfold conv
  show rbias _ b H.h1 H.h2 (ix3 n o t) = _
  rw [rbias_apply, Fin.sum_univ_seven]
  congr 1
  show ((((((rtap 0 _ _ w (ix3 n o t) : EReal) + rtap 1 _ _ w (ix3 n o t)) + rtap 2 _ _ w (ix3 n o t))
    + rtap 3 _ _ w (ix3 n o t)) + rtap 4 _ _ w (ix3 n o t)) + rtap 5 _ _ w (ix3 n o t)) + rtap 6 _ _ w (ix3 n o t) = _
  rw [rtap_apply 0 _ 3 X H.hp H.hu w (by decide) (by omega), rtap_apply 1 _ 3 X H.hp H.hu w (by decide) (by omega),
    rtap_apply 2 _ 3 X H.hp H.hu w (by decide) (by omega), rtap_apply 3 _ 3 X H.hp H.hu w (by decide) (by omega),
    rtap_apply 4 _ 3 X H.hp H.hu w (by decide) (by omega), rtap_apply 5 _ 3 X H.hp H.hu w (by decide) (by omega),
    rtap_apply 6 _ 3 X H.hp H.hu w (by decide) (by omega)]
  rfl

end Cert.RefConv

end
-- ==== Proof.HostOps.lean ====
module

public import proofs.«01_k».proof.Proof.Region0
public import proofs.«01_k».proof.Proof.RefConv
public import Idealize.ShloMosaic.Lib.StableHlo.RunRead

@[expose] public section

noncomputable section

/-! What the host operations before each kernel call leave in the call's arrays. -/

namespace Cert.HostOps

open Idealize.ShloMosaic Idealize.ShloMosaic.TcCoe Idealize.ShloMosaic.ValueIdx Cert.KernelIdeal Cert.KernelIdeal.Gen
open Idealize.SL Idealize.ShloMosaic.Pipeline Idealize.SL.Sem
open Cert.KConv Cert.Quant Cert.Net Cert.KBlock Cert.RefConv Cert.Region0

section generic
variable {ci co K n : ℕ}

/-- A filter unfolded by the host reads back as the filter. -/
theorem colW_host (w : FVec Ideal (W3 co ci K) .f32) (ht : (W3 co ci K).Transposes [2, 1, 0] (W3 K ci co))
    (hr : (W3 K ci co).ShapeCasts (M2 n co)) (hn : K * ci = n) :
    colW (shapeCast (M2 n co) (transpose (W3 K ci co) [2, 1, 0] w ht) hr) hn = wgt w := by
  funext o i k
  unfold colW wgt
  refine (shapeCast_apply _ hr _ (ix3 k i o) ?_).trans ?_
  · rw [Shape.rowMajor_val_three, Shape.rowMajor_val_two]; rfl
  · refine transpose_apply [2, 1, 0] w ht (ix3 k i o) (ix3 o i k) ?_
    intro a; fin_cases a <;> rfl

/-- A bias laid out by the host reads back as the bias. -/
theorem rowB_host (b : FVec Ideal ⟨1, ![co]⟩ .f32) (hr : (⟨1, ![co]⟩ : Shape).ShapeCasts (V3 co)) :
    rowB (shapeCast (V3 co) b hr) = bia b := by
  funext o
  unfold rowB bia
  refine shapeCast_apply b hr _ (ix1 o) ?_
  rw [Shape.rowMajor_val_one, Shape.rowMajor_val_three]
  show o.val = (0 * 1 + 0) * co + o.val
  omega

end generic

variable (m : (ℓ : Loc nD τ sig) → Buf (Elt Ideal) ℓ) (ρ : Dev nD → PrngReg) (c : Dev nD)

theorem w2 : colW (V1 m ρ c main_call0_v2 : FVec Ideal S3x5 .f32) f_enc1.hn = wgt (m ((c : Thread nD τ).loc main_arg1) : FVec Ideal S5x1x3 .f32) := by
  have h : (V1 m ρ c main_call0_v2 : FVec Ideal S3x5 .f32)
      = shapeCast S3x5 (transpose S3x1x5 [2, 1, 0] (m ((c : Thread nD τ).loc main_arg1) : FVec Ideal S5x1x3 .f32) transposes_S5x1x3_S3x1x5_2_1_0) shapeCasts_S3x1x5_S3x5 := by
    show StableHlo.after hostOps0 (W0 m ρ c) (Proc.devRef .tc main_call0_v2) = _
    after_reads_simp
    rfl
  rw [h]
  exact colW_host _ transposes_S5x1x3_S3x1x5_2_1_0 shapeCasts_S3x1x5_S3x5 f_enc1.hn
theorem w3 : rowB (V1 m ρ c main_call0_v3 : FVec Ideal S1x1x5 .f32) = bia (m ((c : Thread nD τ).loc main_arg2) : FVec Ideal S5 .f32) := by
  have h : (V1 m ρ c main_call0_v3 : FVec Ideal S1x1x5 .f32) = shapeCast S1x1x5 (m ((c : Thread nD τ).loc main_arg2) : FVec Ideal S5 .f32) shapeCasts_S5_S1x1x5 := by
    show StableHlo.after hostOps0 (W0 m ρ c) (Proc.devRef .tc main_call0_v3) = _
    after_reads_simp
    rfl
  rw [h]
  exact rowB_host _ shapeCasts_S5_S1x1x5
theorem w5 : colW (V1 m ρ c main_call0_v5 : FVec Ideal S25x10 .f32) f_mid.hn = wgt (m ((c : Thread nD τ).loc main_arg3) : FVec Ideal S10x5x5 .f32) := by
  have h : (V1 m ρ c main_call0_v5 : FVec Ideal S25x10 .f32)
      = shapeCast S25x10 (transpose S5x5x10 [2, 1, 0] (m ((c : Thread nD τ).loc main_arg3) : FVec Ideal S10x5x5 .f32) transposes_S10x5x5_S5x5x10_2_1_0) shapeCasts_S5x5x10_S25x10 := by
    show StableHlo.after hostOps0 (W0 m ρ c) (Proc.devRef .tc main_call0_v5) = _
    after_reads_simp
    rfl
  rw [h]
  exact colW_host _ transposes_S10x5x5_S5x5x10_2_1_0 shapeCasts_S5x5x10_S25x10 f_mid.hn
theorem w6 : rowB (V1 m ρ c main_call0_v6 : FVec Ideal S1x1x10 .f32) = bia (m ((c : Thread nD τ).loc main_arg4) : FVec Ideal S10 .f32) := by
  have h : (V1 m ρ c main_call0_v6 : FVec Ideal S1x1x10 .f32) = shapeCast S1x1x10 (m ((c : Thread nD τ).loc main_arg4) : FVec Ideal S10 .f32) shapeCasts_S10_S1x1x10 := by
    show StableHlo.after hostOps0 (W0 m ρ c) (Proc.devRef .tc main_call0_v6) = _
    after_reads_simp
    rfl
  rw [h]
  exact rowB_host _ shapeCasts_S10_S1x1x10
theorem w8 : colW (V1 m ρ c main_call0_v8 : FVec Ideal S70x64 .f32) f_enc3.hn = wgt (m ((c : Thread nD τ).loc main_arg5) : FVec Ideal S64x10x7 .f32) := by
  have h : (V1 m ρ c main_call0_v8 : FVec Ideal S70x64 .f32)
      = shapeCast S70x64 (transpose S7x10x64 [2, 1, 0] (m ((c : Thread nD τ).loc main_arg5) : FVec Ideal S64x10x7 .f32) transposes_S64x10x7_S7x10x64_2_1_0) shapeCasts_S7x10x64_S70x64 := by
    show StableHlo.after hostOps0 (W0 m ρ c) (Proc.devRef .tc main_call0_v8) = _
    after_reads_simp
    rfl
  rw [h]
  exact colW_host _ transposes_S64x10x7_S7x10x64_2_1_0 shapeCasts_S7x10x64_S70x64 f_enc3.hn
theorem w9 : rowB (V1 m ρ c main_call0_v9 : FVec Ideal S1x1x64 .f32) = bia (m ((c : Thread nD τ).loc main_arg6) : FVec Ideal S64 .f32) := by
  have h : (V1 m ρ c main_call0_v9 : FVec Ideal S1x1x64 .f32) = shapeCast S1x1x64 (m ((c : Thread nD τ).loc main_arg6) : FVec Ideal S64 .f32) shapeCasts_S64_S1x1x64 := by
    show StableHlo.after hostOps0 (W0 m ρ c) (Proc.devRef .tc main_call0_v9) = _
    after_reads_simp
    rfl
  rw [h]
  exact rowB_host _ shapeCasts_S64_S1x1x64
theorem w11 : colW (V1 m ρ c main_call0_v11 : FVec Ideal S224x5 .f32) f_dec1.hn = wgt (m ((c : Thread nD τ).loc main_arg7) : FVec Ideal S5x32x7 .f32) := by
  have h : (V1 m ρ c main_call0_v11 : FVec Ideal S224x5 .f32)
      = shapeCast S224x5 (transpose S7x32x5 [2, 1, 0] (m ((c : Thread nD τ).loc main_arg7) : FVec Ideal S5x32x7 .f32) transposes_S5x32x7_S7x32x5_2_1_0) shapeCasts_S7x32x5_S224x5 := by
    show StableHlo.after hostOps0 (W0 m ρ c) (Proc.devRef .tc main_call0_v11) = _
    after_reads_simp
    rfl
  rw [h]
  exact colW_host _ transposes_S5x32x7_S7x32x5_2_1_0 shapeCasts_S7x32x5_S224x5 f_dec1.hn
theorem w12 : rowB (V1 m ρ c main_call0_v12 : FVec Ideal S1x1x5 .f32) = bia (m ((c : Thread nD τ).loc main_arg8) : FVec Ideal S5 .f32) := by
  have h : (V1 m ρ c main_call0_v12 : FVec Ideal S1x1x5 .f32) = shapeCast S1x1x5 (m ((c : Thread nD τ).loc main_arg8) : FVec Ideal S5 .f32) shapeCasts_S5_S1x1x5 := by
    show StableHlo.after hostOps0 (W0 m ρ c) (Proc.devRef .tc main_call0_v12) = _
    after_reads_simp
    rfl
  rw [h]
  exact rowB_host _ shapeCasts_S5_S1x1x5
theorem w14 : colW (V1 m ρ c main_call0_v14 : FVec Ideal S25x10 .f32) f_mid.hn = wgt (m ((c : Thread nD τ).loc main_arg9) : FVec Ideal S10x5x5 .f32) := by
  have h : (V1 m ρ c main_call0_v14 : FVec Ideal S25x10 .f32)
      = shapeCast S25x10 (transpose S5x5x10 [2, 1, 0] (m ((c : Thread nD τ).loc main_arg9) : FVec Ideal S10x5x5 .f32) transposes_S10x5x5_S5x5x10_2_1_0) shapeCasts_S5x5x10_S25x10 := by
    show StableHlo.after hostOps0 (W0 m ρ c) (Proc.devRef .tc main_call0_v14) = _
    after_reads_simp
    rfl
  rw [h]
  exact colW_host _ transposes_S10x5x5_S5x5x10_2_1_0 shapeCasts_S5x5x10_S25x10 f_mid.hn
theorem w15 : rowB (V1 m ρ c main_call0_v15 : FVec Ideal S1x1x10 .f32) = bia (m ((c : Thread nD τ).loc main_arg10) : FVec Ideal S10 .f32) := by
  have h : (V1 m ρ c main_call0_v15 : FVec Ideal S1x1x10 .f32) = shapeCast S1x1x10 (m ((c : Thread nD τ).loc main_arg10) : FVec Ideal S10 .f32) shapeCasts_S10_S1x1x10 := by
    show StableHlo.after hostOps0 (W0 m ρ c) (Proc.devRef .tc main_call0_v15) = _
    after_reads_simp
    rfl
  rw [h]
  exact rowB_host _ shapeCasts_S10_S1x1x10
theorem w17 : colW (V1 m ρ c main_call0_v17 : FVec Ideal S30x32 .f32) f_dec3.hn = wgt (m ((c : Thread nD τ).loc main_arg11) : FVec Ideal S32x10x3 .f32) := by
  have h : (V1 m ρ c main_call0_v17 : FVec Ideal S30x32 .f32)
      = shapeCast S30x32 (transpose S3x10x32 [2, 1, 0] (m ((c : Thread nD τ).loc main_arg11) : FVec Ideal S32x10x3 .f32) transposes_S32x10x3_S3x10x32_2_1_0) shapeCasts_S3x10x32_S30x32 := by
    show StableHlo.after hostOps0 (W0 m ρ c) (Proc.devRef .tc main_call0_v17) = _
    after_reads_simp
    rfl
  rw [h]
  exact colW_host _ transposes_S32x10x3_S3x10x32_2_1_0 shapeCasts_S3x10x32_S30x32 f_dec3.hn
theorem w18 : rowB (V1 m ρ c main_call0_v18 : FVec Ideal S1x1x32 .f32) = bia (m ((c : Thread nD τ).loc main_arg12) : FVec Ideal S32 .f32) := by
  have h : (V1 m ρ c main_call0_v18 : FVec Ideal S1x1x32 .f32) = shapeCast S1x1x32 (m ((c : Thread nD τ).loc main_arg12) : FVec Ideal S32 .f32) shapeCasts_S32_S1x1x32 := by
    show StableHlo.after hostOps0 (W0 m ρ c) (Proc.devRef .tc main_call0_v18) = _
    after_reads_simp
    rfl
  rw [h]
  exact rowB_host _ shapeCasts_S32_S1x1x32
theorem w20 : colW (V1 m ρ c main_call0_v20 : FVec Ideal S224x5 .f32) f_dec1.hn = wgt (m ((c : Thread nD τ).loc main_arg13) : FVec Ideal S5x32x7 .f32) := by
  have h : (V1 m ρ c main_call0_v20 : FVec Ideal S224x5 .f32)
      = shapeCast S224x5 (transpose S7x32x5 [2, 1, 0] (m ((c : Thread nD τ).loc main_arg13) : FVec Ideal S5x32x7 .f32) transposes_S5x32x7_S7x32x5_2_1_0) shapeCasts_S7x32x5_S224x5 := by
    show StableHlo.after hostOps0 (W0 m ρ c) (Proc.devRef .tc main_call0_v20) = _
    after_reads_simp
    rfl
  rw [h]
  exact colW_host _ transposes_S5x32x7_S7x32x5_2_1_0 shapeCasts_S7x32x5_S224x5 f_dec1.hn
theorem w21 : rowB (V1 m ρ c main_call0_v21 : FVec Ideal S1x1x5 .f32) = bia (m ((c : Thread nD τ).loc main_arg14) : FVec Ideal S5 .f32) := by
  have h : (V1 m ρ c main_call0_v21 : FVec Ideal S1x1x5 .f32) = shapeCast S1x1x5 (m ((c : Thread nD τ).loc main_arg14) : FVec Ideal S5 .f32) shapeCasts_S5_S1x1x5 := by
    show StableHlo.after hostOps0 (W0 m ρ c) (Proc.devRef .tc main_call0_v21) = _
    after_reads_simp
    rfl
  rw [h]
  exact rowB_host _ shapeCasts_S5_S1x1x5
theorem w23 : colW (V1 m ρ c main_call0_v23 : FVec Ideal S25x10 .f32) f_mid.hn = wgt (m ((c : Thread nD τ).loc main_arg15) : FVec Ideal S10x5x5 .f32) := by
  have h : (V1 m ρ c main_call0_v23 : FVec Ideal S25x10 .f32)
      = shapeCast S25x10 (transpose S5x5x10 [2, 1, 0] (m ((c : Thread nD τ).loc main_arg15) : FVec Ideal S10x5x5 .f32) transposes_S10x5x5_S5x5x10_2_1_0) shapeCasts_S5x5x10_S25x10 := by
    show StableHlo.after hostOps0 (W0 m ρ c) (Proc.devRef .tc main_call0_v23) = _
    after_reads_simp
    rfl
  rw [h]
  exact colW_host _ transposes_S10x5x5_S5x5x10_2_1_0 shapeCasts_S5x5x10_S25x10 f_mid.hn
theorem w24 : rowB (V1 m ρ c main_call0_v24 : FVec Ideal S1x1x10 .f32) = bia (m ((c : Thread nD τ).loc main_arg16) : FVec Ideal S10 .f32) := by
  have h : (V1 m ρ c main_call0_v24 : FVec Ideal S1x1x10 .f32) = shapeCast S1x1x10 (m ((c : Thread nD τ).loc main_arg16) : FVec Ideal S10 .f32) shapeCasts_S10_S1x1x10 := by
    show StableHlo.after hostOps0 (W0 m ρ c) (Proc.devRef .tc main_call0_v24) = _
    after_reads_simp
    rfl
  rw [h]
  exact rowB_host _ shapeCasts_S10_S1x1x10
theorem w26 : colW (V1 m ρ c main_call0_v26 : FVec Ideal S30x32 .f32) f_dec3.hn = wgt (m ((c : Thread nD τ).loc main_arg17) : FVec Ideal S32x10x3 .f32) := by
  have h : (V1 m ρ c main_call0_v26 : FVec Ideal S30x32 .f32)
      = shapeCast S30x32 (transpose S3x10x32 [2, 1, 0] (m ((c : Thread nD τ).loc main_arg17) : FVec Ideal S32x10x3 .f32) transposes_S32x10x3_S3x10x32_2_1_0) shapeCasts_S3x10x32_S30x32 := by
    show StableHlo.after hostOps0 (W0 m ρ c) (Proc.devRef .tc main_call0_v26) = _
    after_reads_simp
    rfl
  rw [h]
  exact colW_host _ transposes_S32x10x3_S3x10x32_2_1_0 shapeCasts_S3x10x32_S30x32 f_dec3.hn
theorem w27 : rowB (V1 m ρ c main_call0_v27 : FVec Ideal S1x1x32 .f32) = bia (m ((c : Thread nD τ).loc main_arg18) : FVec Ideal S32 .f32) := by
  have h : (V1 m ρ c main_call0_v27 : FVec Ideal S1x1x32 .f32) = shapeCast S1x1x32 (m ((c : Thread nD τ).loc main_arg18) : FVec Ideal S32 .f32) shapeCasts_S32_S1x1x32 := by
    show StableHlo.after hostOps0 (W0 m ρ c) (Proc.devRef .tc main_call0_v27) = _
    after_reads_simp
    rfl
  rw [h]
  exact rowB_host _ shapeCasts_S32_S1x1x32

/-- The signal a batch member carries. -/
theorem w0 (b : Fin 256) : xrow (V1 m ρ) c b = fun _ s => (m ((c : Thread nD τ).loc main_arg0) : FVec Ideal S256x512 .f32) (ix2 b s) := by
  have h : (V1 m ρ c main_call0_v0 : FVec Ideal S256x512x1 .f32)
      = broadcastInDim S256x512x1 ![0, 1] bcast_S256x512_S256x512x1_0_1 (m ((c : Thread nD τ).loc main_arg0) : FVec Ideal S256x512 .f32) := by
    show StableHlo.after hostOps0 (W0 m ρ c) (Proc.devRef .tc main_call0_v0) = _
    rfl
  funext i s
  unfold xrow
  rw [h]
  refine broadcastInDim_apply ![0, 1] bcast_S256x512_S256x512x1_0_1 _ (ix3 b s i) (ix2 b s) ?_
  intro a; fin_cases a <;> rfl

/-- The code as given. -/
theorem w_code : V1 m ρ c main_arg21 = m ((c : Thread nD τ).loc main_arg21) := W1_args m ρ c main_arg21 (by decide)

/-- The code transposed. -/
theorem w28 (i : Fin 32) (k : Fin 1024) : (V1 m ρ c main_call0_v28 : FVec Ideal S1024x32 .f32) (ix2 k i)
    = (V1 m ρ c main_arg21 : FVec Ideal S32x1024 .f32) (ix2 i k) := by
  have h : (V1 m ρ c main_call0_v28 : FVec Ideal S1024x32 .f32)
      = transpose S1024x32 [1, 0] (m ((c : Thread nD τ).loc main_arg21) : FVec Ideal S32x1024 .f32) transposes_S32x1024_S1024x32_1_0 := by
    show StableHlo.after hostOps0 (W0 m ρ c) (Proc.devRef .tc main_call0_v28) = _
    rfl
  rw [h, w_code]
  refine transpose_apply [1, 0] _ transposes_S32x1024_S1024x32_1_0 (ix2 k i) (ix2 i k) ?_
  intro a; fin_cases a <;> rfl

/-- The dense weights, unfolded frame by frame. -/
theorem w32 (t : Fin 512) (i : Fin 32) (n : Fin 512) (q : Fin 16384) (hq : q.val = t.val * 32 + i.val) (p : Fin 16384) (hp : p.val = i.val * 512 + t.val) :
    (V3 m ρ c main_call0_v32 : FVec Ideal S16384x512 .f32) (ix2 q n)
      = (m ((c : Thread nD τ).loc main_arg19) : FVec Ideal S512x16384 .f32) (ix2 n p) := by
  have h : (V3 m ρ c main_call0_v32 : FVec Ideal S16384x512 .f32)
      = shapeCast S16384x512 (transpose S512x32x512 [2, 1, 0] (shapeCast S512x32x512 (W2 m ρ c (Proc.devRef .tc main_arg19) : FVec Ideal S512x16384 .f32)
          shapeCasts_S512x16384_S512x32x512) transposes_S512x32x512_S512x32x512_2_1_0) shapeCasts_S512x32x512_S16384x512 := by
    show StableHlo.after hostOps1 (W2 m ρ c) (Proc.devRef .tc main_call0_v32) = _
    after_reads_simp
    rfl
  rw [h, W2_args m ρ c main_arg19 (by decide)]
  refine (shapeCast_apply _ shapeCasts_S512x32x512_S16384x512 (ix2 q n) (ix3 t i n) ?_).trans ?_
  · rw [Shape.rowMajor_val_three, Shape.rowMajor_val_two]
    show (t.val * 32 + i.val) * 512 + n.val = q.val * 512 + n.val
    omega
  refine (transpose_apply [2, 1, 0] _ transposes_S512x32x512_S512x32x512_2_1_0 (ix3 t i n) (ix3 n i t) ?_).trans ?_
  · intro a; fin_cases a <;> rfl
  refine shapeCast_apply _ shapeCasts_S512x16384_S512x32x512 (ix3 n i t) (ix2 n p) ?_
  rw [Shape.rowMajor_val_three, Shape.rowMajor_val_two]
  show n.val * 16384 + p.val = (n.val * 32 + i.val) * 512 + t.val
  omega

/-- A decoded half, flattened frame by frame. -/
theorem w33 (b : Fin 256) (t : Fin 512) (i : Fin 32) (q : Fin 16384) (hq : q.val = t.val * 32 + i.val) :
    (V3 m ρ c main_call0_v33 : FVec Ideal S256x16384 .f32) (ix2 b q) = (W2 m ρ c (Proc.devRef .tc main_call0_v29_0) : FVec Ideal S256x512x32 .f32) (ix3 b t i) := by
  have h : (V3 m ρ c main_call0_v33 : FVec Ideal S256x16384 .f32)
      = shapeCast S256x16384 (W2 m ρ c (Proc.devRef .tc main_call0_v29_0) : FVec Ideal S256x512x32 .f32) shapeCasts_S256x512x32_S256x16384 := by
    show StableHlo.after hostOps1 (W2 m ρ c) (Proc.devRef .tc main_call0_v33) = _
    after_reads_simp
    rfl
  rw [h]
  refine shapeCast_apply _ shapeCasts_S256x512x32_S256x16384 (ix2 b q) (ix3 b t i) ?_
  rw [Shape.rowMajor_val_three, Shape.rowMajor_val_two]
  show (b.val * 512 + t.val) * 32 + i.val = b.val * 16384 + q.val
  omega

theorem w34 (b : Fin 256) (t : Fin 512) (i : Fin 32) (q : Fin 16384) (hq : q.val = t.val * 32 + i.val) :
    (V3 m ρ c main_call0_v34 : FVec Ideal S256x16384 .f32) (ix2 b q) = (W2 m ρ c (Proc.devRef .tc main_call0_v29_1) : FVec Ideal S256x512x32 .f32) (ix3 b t i) := by
  have h : (V3 m ρ c main_call0_v34 : FVec Ideal S256x16384 .f32)
      = shapeCast S256x16384 (W2 m ρ c (Proc.devRef .tc main_call0_v29_1) : FVec Ideal S256x512x32 .f32) shapeCasts_S256x512x32_S256x16384 := by
    show StableHlo.after hostOps1 (W2 m ρ c) (Proc.devRef .tc main_call0_v34) = _
    after_reads_simp
    rfl
  rw [h]
  refine shapeCast_apply _ shapeCasts_S256x512x32_S256x16384 (ix2 b q) (ix3 b t i) ?_
  rw [Shape.rowMajor_val_three, Shape.rowMajor_val_two]
  show (b.val * 512 + t.val) * 32 + i.val = b.val * 16384 + q.val
  omega

/-- The dense bias. -/
theorem w35 (n : Fin 512) : (V3 m ρ c main_call0_v35 : FVec Ideal S1x512 .f32) (ix2 0 n) = (m ((c : Thread nD τ).loc main_arg20) : FVec Ideal S512 .f32) (ix1 n) := by
  have h : (V3 m ρ c main_call0_v35 : FVec Ideal S1x512 .f32) = shapeCast S1x512 (W2 m ρ c (Proc.devRef .tc main_arg20) : FVec Ideal S512 .f32) shapeCasts_S512_S1x512 := by
    show StableHlo.after hostOps1 (W2 m ρ c) (Proc.devRef .tc main_call0_v35) = _
    after_reads_simp
    rfl
  rw [h, W2_args m ρ c main_arg20 (by decide)]
  refine shapeCast_apply _ shapeCasts_S512_S1x512 (ix2 0 n) (ix1 n) ?_
  rw [Shape.rowMajor_val_one, Shape.rowMajor_val_two]
  show n.val = 0 * 512 + n.val
  omega

end Cert.HostOps

end
-- ==== Proof.Region1.lean ====
module

public import proofs.«01_k».proof.Proof.KConv
public import proofs.«01_k».proof.Proof.Gen.KernelIdeal.Frame
public import Idealize.ShloMosaic.Lib.Pipeline.ValueKit.Geometry
public import Idealize.ShloMosaic.Lib.Pipeline.ValueKit.Acc

@[expose] public section

noncomputable section

/-! The second kernel call's two result arrays: the dense layer, summed over four chunks of the flattened features. -/

namespace Cert.Region1

open Idealize.ShloMosaic Idealize.ShloMosaic.TcCoe Idealize.ShloMosaic.ValueIdx Cert.KernelIdeal Cert.KernelIdeal.Gen
open Idealize.SL Idealize.ShloMosaic.Pipeline Idealize.SL.Sem
open Cert.KConv

/-! ## The payloads at an entry -/

theorem pay2_apply (j : S32x512.Idx) : (k1_pay2 (F := Ideal)) j = (0 : EReal) := Ideal.ofBits_zero_f32

theorem pay4_apply (w : FVec Ideal S4096x512 .f32) (a : FVec Ideal S32x512 .f32) (y : FVec Ideal S32x4096 .f32) (r : Fin 32) (n : Fin 512) :
    k1_pay4 w a y (ix2 r n) = (a (ix2 r n) + ∑ q : Fin 4096, y (ix2 r q) * w (ix2 q n) : EReal) := by
  unfold k1_pay4 k1_pay1
  simp only [shapeCast_self]
  show (a (ix2 r n) + _ : EReal) = _
  congr 1
  refine (Ideal.matmul_plain_apply none y w (constant S32x512 .f32 0x00000000#32) r n).trans ?_
  refine (congrArg (· + _) (Ideal.ofBits_zero_f32)).trans (zero_add _)

theorem pay7_apply (b : FVec Ideal S1x512 .f32) (a : FVec Ideal S32x512 .f32) (r : Fin 32) (n : Fin 512) :
    (k1_pay7 b a : FVec Ideal S32x512 .f32) (ix2 r n) = Ideal.tanh (a (ix2 r n) + b (ix2 0 n) : EReal) := by
  unfold k1_pay7 k1_pay6
  simp only [shapeCast_self]
  show Ideal.tanh (a (ix2 r n) + broadcastTo S32x512 b broadcasts_S1x512_S32x512 (ix2 r n) : EReal) = _
  refine congrArg (fun z : EReal => Ideal.tanh (a (ix2 r n) + z)) ?_
  refine broadcastTo_apply b broadcasts_S1x512_S32x512 (ix2 r n) (ix2 0 n) ?_
  intro a; fin_cases a
  · rfl
  · show n.val = if (512 : ℕ) = 1 then 0 else n.val; rw [if_neg (by decide)]

variable (V : (c : Dev nD) → (b : Ref sig .tc) → Buf (Elt Ideal) ((c : Thread nD τ).loc b)) (c : Dev nD)

/-! ## The blocks -/

theorem idx_0 : ∀ t : Fin cfg1.N, win1_0.index t = ![t.val / 4, t.val % 4] := (by decide +kernel : ∀ t : Fin grid1.N, _)
theorem idx_1 : ∀ t : Fin cfg1.N, win1_1.index t = ![t.val / 4, t.val % 4] := (by decide +kernel : ∀ t : Fin grid1.N, _)
theorem idx_2 : ∀ t : Fin cfg1.N, win1_2.index t = ![t.val % 4, 0] := (by decide +kernel : ∀ t : Fin grid1.N, _)
theorem idx_4 : ∀ t : Fin cfg1.N, win1_4.index t = ![t.val / 4, 0] := (by decide +kernel : ∀ t : Fin grid1.N, _)
theorem idx_5 : ∀ t : Fin cfg1.N, win1_5.index t = ![t.val / 4, 0] := (by decide +kernel : ∀ t : Fin grid1.N, _)

theorem blk_0 (t : Fin cfg1.N) (r : Fin 32) (q : Fin 4096) (b : Fin 256) (p : Fin 16384) (hb : b.val = t.val / 4 * 32 + r.val)
    (hp : p.val = t.val % 4 * 4096 + q.val) :
    (iblk1 V c 0 t : FVec Ideal S32x4096 .f32) (ix2 r q) = (V c main_call0_v33 : FVec Ideal S256x16384 .f32) (ix2 b p) := by
  blk_simp [iblk1]
  refine congrArg (V c main_call0_v33 : FVec Ideal S256x16384 .f32) ?_
  funext a; apply Fin.ext
  fin_cases a
  · show ((win1_0.blk t).view.emb (ix2 r q) 0 : ℕ) = b.val
    blk_simp [idx_0 t]
    exact hb.symm
  · show ((win1_0.blk t).view.emb (ix2 r q) 1 : ℕ) = p.val
    blk_simp [idx_0 t]
    exact hp.symm

theorem blk_1 (t : Fin cfg1.N) (r : Fin 32) (q : Fin 4096) (b : Fin 256) (p : Fin 16384) (hb : b.val = t.val / 4 * 32 + r.val)
    (hp : p.val = t.val % 4 * 4096 + q.val) :
    (iblk1 V c 1 t : FVec Ideal S32x4096 .f32) (ix2 r q) = (V c main_call0_v34 : FVec Ideal S256x16384 .f32) (ix2 b p) := by
  blk_simp [iblk1]
  refine congrArg (V c main_call0_v34 : FVec Ideal S256x16384 .f32) ?_
  funext a; apply Fin.ext
  fin_cases a
  · show ((win1_1.blk t).view.emb (ix2 r q) 0 : ℕ) = b.val
    blk_simp [idx_1 t]
    exact hb.symm
  · show ((win1_1.blk t).view.emb (ix2 r q) 1 : ℕ) = p.val
    blk_simp [idx_1 t]
    exact hp.symm

theorem blk_2 (t : Fin cfg1.N) (q : Fin 4096) (n : Fin 512) (p : Fin 16384) (hp : p.val = t.val % 4 * 4096 + q.val) :
    (iblk1 V c 2 t : FVec Ideal S4096x512 .f32) (ix2 q n) = (V c main_call0_v32 : FVec Ideal S16384x512 .f32) (ix2 p n) := by
  blk_simp [iblk1]
  refine congrArg (V c main_call0_v32 : FVec Ideal S16384x512 .f32) ?_
  funext a; apply Fin.ext
  fin_cases a
  · show ((win1_2.blk t).view.emb (ix2 q n) 0 : ℕ) = p.val
    blk_simp [idx_2 t]
    exact hp.symm
  · show ((win1_2.blk t).view.emb (ix2 q n) 1 : ℕ) = n.val
    blk_simp [idx_2 t]
    rfl

theorem blk_3 (t : Fin cfg1.N) : (iblk1 V c 3 t : FVec Ideal S1x512 .f32) = V c main_call0_v35 := by
  have hz : (fun a => win1_3.index t a * main_call0_v35.ty.shape.size a) = fun _ => 0 := funext fun a => by fin_cases a <;> rfl
  exact Memref.read_access_unit_zero (Elt Ideal) main_call0_v35 hz (fun a => by rw [congrFun hz a]; simp) (V c main_call0_v35)

/-! ## One point's contents -/

theorem outs_congr (a b : ℕ) (ha : a < cfg1.N) (hb : b < cfg1.N) (e : a = b) : outsAt1 V c a ha = outsAt1 V c b hb := by
  subst e; rfl

theorem outA_4 (t : Fin cfg1.N) (h0 : t.val % 4 = 0) (h1 : ¬t.val % 4 = 3) :
    (outsAt1 V c t.val t.isLt).1 = k1_pay4 (iblk1 V c 2 t) (k1_pay2 (F := Ideal)) (iblk1 V c 0 t) := by
  rw [outsAt1_A V c t h0 h1]; frame_out
theorem outA_5 (t : Fin cfg1.N) (h0 : t.val % 4 = 0) (h1 : ¬t.val % 4 = 3) :
    (outsAt1 V c t.val t.isLt).2 = k1_pay4 (iblk1 V c 2 t) (k1_pay2 (F := Ideal)) (iblk1 V c 1 t) := by
  rw [outsAt1_A V c t h0 h1]; frame_out; rfl
theorem outB_4 (t : Fin cfg1.N) (h0 : ¬t.val % 4 = 0) (h1 : ¬t.val % 4 = 3) :
    (outsAt1 V c t.val t.isLt).1 = k1_pay4 (iblk1 V c 2 t) (outsAt1 V c (t.val - 1) (Nat.lt_of_le_of_lt (Nat.sub_le _ _) t.isLt)).1 (iblk1 V c 0 t) := by
  rw [outsAt1_B V c t h0 h1]; frame_out
theorem outB_5 (t : Fin cfg1.N) (h0 : ¬t.val % 4 = 0) (h1 : ¬t.val % 4 = 3) :
    (outsAt1 V c t.val t.isLt).2 = k1_pay4 (iblk1 V c 2 t) (outsAt1 V c (t.val - 1) (Nat.lt_of_le_of_lt (Nat.sub_le _ _) t.isLt)).2 (iblk1 V c 1 t) := by
  rw [outsAt1_B V c t h0 h1]; frame_out; rfl
theorem outC_4 (t : Fin cfg1.N) (h0 : ¬t.val % 4 = 0) (h1 : t.val % 4 = 3) :
    (outsAt1 V c t.val t.isLt).1
      = k1_pay7 (iblk1 V c 3 t) (k1_pay4 (iblk1 V c 2 t) (outsAt1 V c (t.val - 1) (Nat.lt_of_le_of_lt (Nat.sub_le _ _) t.isLt)).1 (iblk1 V c 0 t)) := by
  rw [outsAt1_C V c t h0 h1]; frame_out
theorem outC_5 (t : Fin cfg1.N) (h0 : ¬t.val % 4 = 0) (h1 : t.val % 4 = 3) :
    (outsAt1 V c t.val t.isLt).2
      = k1_pay7 (iblk1 V c 3 t) (k1_pay4 (iblk1 V c 2 t) (outsAt1 V c (t.val - 1) (Nat.lt_of_le_of_lt (Nat.sub_le _ _) t.isLt)).2 (iblk1 V c 1 t)) := by
  rw [outsAt1_C V c t h0 h1]; frame_out; rfl

/-! ## The four chunks of a row -/

theorem lt_chunk (s : Fin 4) (q : Fin 4096) : s.val * 4096 + q.val < 16384 := by omega

/-- Chunk `s` of the product of row `b` of the features with column `n` of the weights. -/
def chunk (Y : FVec Ideal S256x16384 .f32) (W : FVec Ideal S16384x512 .f32) (b : Fin 256) (n : Fin 512) (s : Fin 4) : EReal :=
  ∑ q : Fin 4096, Y (ix2 b ⟨s.val * 4096 + q.val, lt_chunk s q⟩) * W (ix2 ⟨s.val * 4096 + q.val, lt_chunk s q⟩ n)

theorem chunk_0 (t : Fin cfg1.N) (r : Fin 32) (n : Fin 512) (b : Fin 256) (s : Fin 4) (hb : b.val = t.val / 4 * 32 + r.val) (hs : t.val % 4 = s.val)
    (a : FVec Ideal S32x512 .f32) :
    k1_pay4 (iblk1 V c 2 t) a (iblk1 V c 0 t) (ix2 r n) = (a (ix2 r n) + chunk (V c main_call0_v33) (V c main_call0_v32) b n s : EReal) := by
  rw [pay4_apply]
  unfold chunk
  congr 1
  refine Finset.sum_congr rfl fun q _ => ?_
  rw [blk_0 V c t r q b ⟨s.val * 4096 + q.val, lt_chunk s q⟩ hb (by rw [hs]), blk_2 V c t q n ⟨s.val * 4096 + q.val, lt_chunk s q⟩ (by rw [hs])]

theorem chunk_1 (t : Fin cfg1.N) (r : Fin 32) (n : Fin 512) (b : Fin 256) (s : Fin 4) (hb : b.val = t.val / 4 * 32 + r.val) (hs : t.val % 4 = s.val)
    (a : FVec Ideal S32x512 .f32) :
    k1_pay4 (iblk1 V c 2 t) a (iblk1 V c 1 t) (ix2 r n) = (a (ix2 r n) + chunk (V c main_call0_v34) (V c main_call0_v32) b n s : EReal) := by
  rw [pay4_apply]
  unfold chunk
  congr 1
  refine Finset.sum_congr rfl fun q _ => ?_
  rw [blk_1 V c t r q b ⟨s.val * 4096 + q.val, lt_chunk s q⟩ hb (by rw [hs]), blk_2 V c t q n ⟨s.val * 4096 + q.val, lt_chunk s q⟩ (by rw [hs])]

/-- One entry of the dense layer. -/
def fcOut (Y : FVec Ideal S256x16384 .f32) (W : FVec Ideal S16384x512 .f32) (B : FVec Ideal S1x512 .f32) (b : Fin 256) (n : Fin 512) : EReal :=
  Ideal.tanh ((∑ q : Fin 16384, Y (ix2 b q) * W (ix2 q n)) + B (ix2 0 n))

theorem chunks_sum (Y : FVec Ideal S256x16384 .f32) (W : FVec Ideal S16384x512 .f32) (b : Fin 256) (n : Fin 512) :
    (((0 + chunk Y W b n 0) + chunk Y W b n 1) + chunk Y W b n 2) + chunk Y W b n 3 = ∑ q : Fin 16384, Y (ix2 b q) * W (ix2 q n) := by
  rw [sum_split (K := 4) (ci := 4096) (by norm_num), Fin.sum_univ_four, zero_add]
  rfl

theorem flush_4 (t : Fin cfg1.N) (hf : (cfg1.win 4).flush t = true) (r : Fin 32) (n : Fin 512) (b : Fin 256) (hb : b.val = t.val / 4 * 32 + r.val) :
    (outsAt1 V c t.val t.isLt).1 (ix2 r n) = fcOut (V c main_call0_v33) (V c main_call0_v32) (V c main_call0_v35) b n := by
  have h3 : t.val % 4 = 3 := (flush1_4 t).mp hf
  have ht := t.isLt
  have i2 : t.val - 1 < cfg1.N := by omega
  have i1 : t.val - 2 < cfg1.N := by omega
  have i0 : t.val - 3 < cfg1.N := by omega
  rw [outC_4 V c t (by omega) h3, pay7_apply, blk_3, chunk_0 V c t r n b 3 hb h3]
  rw [outB_4 V c ⟨t.val - 1, i2⟩ (by show ¬(t.val - 1) % 4 = 0; omega) (by show ¬(t.val - 1) % 4 = 3; omega),
    chunk_0 V c ⟨t.val - 1, i2⟩ r n b 2 (by show b.val = (t.val - 1) / 4 * 32 + r.val; omega) (by show (t.val - 1) % 4 = 2; omega)]
  rw [outs_congr V c (t.val - 1 - 1) (t.val - 2) _ i1 (by omega)]
  rw [outB_4 V c ⟨t.val - 2, i1⟩ (by show ¬(t.val - 2) % 4 = 0; omega) (by show ¬(t.val - 2) % 4 = 3; omega),
    chunk_0 V c ⟨t.val - 2, i1⟩ r n b 1 (by show b.val = (t.val - 2) / 4 * 32 + r.val; omega) (by show (t.val - 2) % 4 = 1; omega)]
  rw [outs_congr V c (t.val - 2 - 1) (t.val - 3) _ i0 (by omega)]
  rw [outA_4 V c ⟨t.val - 3, i0⟩ (by show (t.val - 3) % 4 = 0; omega) (by show ¬(t.val - 3) % 4 = 3; omega),
    chunk_0 V c ⟨t.val - 3, i0⟩ r n b 0 (by show b.val = (t.val - 3) / 4 * 32 + r.val; omega) (by show (t.val - 3) % 4 = 0; omega),
    pay2_apply, chunks_sum]
  rfl

theorem flush_5 (t : Fin cfg1.N) (hf : (cfg1.win 5).flush t = true) (r : Fin 32) (n : Fin 512) (b : Fin 256) (hb : b.val = t.val / 4 * 32 + r.val) :
    (outsAt1 V c t.val t.isLt).2 (ix2 r n) = fcOut (V c main_call0_v34) (V c main_call0_v32) (V c main_call0_v35) b n := by
  have h3 : t.val % 4 = 3 := (flush1_5 t).mp hf
  have ht := t.isLt
  have i2 : t.val - 1 < cfg1.N := by omega
  have i1 : t.val - 2 < cfg1.N := by omega
  have i0 : t.val - 3 < cfg1.N := by omega
  rw [outC_5 V c t (by omega) h3, pay7_apply, blk_3, chunk_1 V c t r n b 3 hb h3]
  rw [outB_5 V c ⟨t.val - 1, i2⟩ (by show ¬(t.val - 1) % 4 = 0; omega) (by show ¬(t.val - 1) % 4 = 3; omega),
    chunk_1 V c ⟨t.val - 1, i2⟩ r n b 2 (by show b.val = (t.val - 1) / 4 * 32 + r.val; omega) (by show (t.val - 1) % 4 = 2; omega)]
  rw [outs_congr V c (t.val - 1 - 1) (t.val - 2) _ i1 (by omega)]
  rw [outB_5 V c ⟨t.val - 2, i1⟩ (by show ¬(t.val - 2) % 4 = 0; omega) (by show ¬(t.val - 2) % 4 = 3; omega),
    chunk_1 V c ⟨t.val - 2, i1⟩ r n b 1 (by show b.val = (t.val - 2) / 4 * 32 + r.val; omega) (by show (t.val - 2) % 4 = 1; omega)]
  rw [outs_congr V c (t.val - 2 - 1) (t.val - 3) _ i0 (by omega)]
  rw [outA_5 V c ⟨t.val - 3, i0⟩ (by show (t.val - 3) % 4 = 0; omega) (by show ¬(t.val - 3) % 4 = 3; omega),
    chunk_1 V c ⟨t.val - 3, i0⟩ r n b 0 (by show b.val = (t.val - 3) / 4 * 32 + r.val; omega) (by show (t.val - 3) % 4 = 0; omega),
    pay2_apply, chunks_sum]
  rfl

/-! ## The result arrays -/

theorem final4 : (dat1 V c).arrAt 4 cfg1.N
    = (fun i => fcOut (V c main_call0_v33) (V c main_call0_v32) (V c main_call0_v35) (i 0) (i 1) : FVec Ideal S256x512 .f32) := by
  refine (dat1 V c).arrAt_eq_of_covers 4 _ (by decide +kernel) fun t hf y => ?_
  blk_simp
  rw [after1_4]
  have e0 : ((win1_4.blk t).view.emb y 0 : ℕ) = t.val / 4 * 32 + (y 0 : ℕ) := by blk_simp [idx_4 t]
  have e1 : (win1_4.blk t).view.emb y 1 = y 1 := by
    apply Fin.ext; blk_simp [idx_4 t]
  refine (congrArg _ (?_ : y = ix2 (y 0) (y 1))).trans ((flush_4 V c t hf (y 0) (y 1) ((win1_4.blk t).view.emb y 0) e0).trans ?_)
  · funext a; fin_cases a <;> rfl
  · rw [e1]

theorem final5 : (dat1 V c).arrAt 5 cfg1.N
    = (fun i => fcOut (V c main_call0_v34) (V c main_call0_v32) (V c main_call0_v35) (i 0) (i 1) : FVec Ideal S256x512 .f32) := by
  refine (dat1 V c).arrAt_eq_of_covers 5 _ (by decide +kernel) fun t hf y => ?_
  blk_simp
  rw [after1_5]
  have e0 : ((win1_5.blk t).view.emb y 0 : ℕ) = t.val / 4 * 32 + (y 0 : ℕ) := by blk_simp [idx_5 t]
  have e1 : (win1_5.blk t).view.emb y 1 = y 1 := by
    apply Fin.ext; blk_simp [idx_5 t]
  refine (congrArg _ (?_ : y = ix2 (y 0) (y 1))).trans ((flush_5 V c t hf (y 0) (y 1) ((win1_5.blk t).view.emb y 0) e0).trans ?_)
  · funext a; fin_cases a <;> rfl
  · rw [e1]

end Cert.Region1

end
-- ==== Proof.RefQuant.lean ====
module

public import proofs.«01_k».proof.Proof.Gen.ReferenceIdeal
public import proofs.«01_k».proof.Proof.RefConv
public import proofs.«01_k».proof.Proof.Quant

@[expose] public section

noncomputable section

/-! The reference's quantiser, as it prints, and its reading as `Quant.quant` at finite channels and codes. -/

namespace Cert.RefQuant

open Idealize.ShloMosaic Idealize.ShloMosaic.ValueIdx Cert.ReferenceIdeal Cert.ReferenceIdeal.Gen Cert.KConv Cert.RefConv Cert.Quant

/-- A number per frame, spread over the 1024 codes. -/
def over (v : FVec Ideal S256x512 .f32) : FVec Ideal S256x512x1024 .f32 :=
  broadcastInDim S256x512x1024 ![0, 1, 2] bcast_S256x512x1_S256x512x1024_0_1_2
    (broadcastInDim S256x512x1 ![0, 1] bcast_S256x512_S256x512x1_0_1 v)

/-- The reference's logits: squared distances, negated. -/
def rlogit (xp : FVec Ideal S256x512x32 .f32) (code : FVec Ideal S32x1024 .f32) : FVec Ideal S256x512x1024 .f32 :=
  mulf (Host.negf (addf (subf
      (over (Host.reduceAdd (mulf xp xp) (constant S_ .f32 0x00000000#32) reducesTo_S256x512x32_S256x512_d2 h_S_))
      (mulf (broadcastInDim S256x512x1024 ![] bcast_S_S256x512x1024 (constant S_ .f32 0x40000000#32))
        (Host.dotGeneral dot_S256x512x32_S32x1024_S256x512x1024_2_0_01_1_n_n none xp code)))
    (broadcastInDim S256x512x1024 ![0, 1, 2] bcast_S1x1x1024_S256x512x1024_0_1_2
      (broadcastInDim S1x1x1024 ![2] bcast_S1024_S1x1x1024_2
        (Host.reduceAdd (mulf code code) (constant S_ .f32 0x00000000#32) reducesTo_S32x1024_S1024_d0 h_S_)))))
    (broadcastInDim S256x512x1024 ![] bcast_S_S256x512x1024 (constant S_ .f32 0x3F800000#32))

/-- Each frame's largest logit. -/
def rmax (l : FVec Ideal S256x512x1024 .f32) : FVec Ideal S256x512 .f32 :=
  maximumf (broadcastInDim S256x512 ![] bcast_S_S256x512 (constant S_ .f32 0xFF800000#32))
    (Host.reduce FloatOps.maximumf l (constant S_ .f32 0xFF800000#32) reducesTo_S256x512x1024_S256x512_d2 h_S_)

/-- The exponentials of the logits less the largest. -/
def rexp (l : FVec Ideal S256x512x1024 .f32) : FVec Ideal S256x512x1024 .f32 := Host.exp (subf l (over (rmax l)))

/-- The softmax of the logits. -/
def rsoft (l : FVec Ideal S256x512x1024 .f32) : FVec Ideal S256x512x1024 .f32 :=
  Host.divf (rexp l) (over (Host.reduceAdd (rexp l) (constant S_ .f32 0x00000000#32) reducesTo_S256x512x1024_S256x512_d2 h_S_))

/-- The reference's quantiser. -/
def rquant (X : FVec Ideal S256x32x512 .f32) (code : FVec Ideal S32x1024 .f32) : FVec Ideal S256x32x512 .f32 :=
  transpose S256x32x512 [1, 0, 2] (Host.dotGeneral dot_S32x1024_S256x512x1024_S32x256x512_1_2_0_01_n_n none code
    (rsoft (rlogit (transpose S256x512x32 [0, 2, 1] X transposes_S256x32x512_S256x512x32_0_2_1) code)))
    transposes_S32x256x512_S256x32x512_1_0_2

theorem over_apply (v : FVec Ideal S256x512 .f32) (b : Fin 256) (t : Fin 512) (m : Fin 1024) :
    over v (ix3 b t m) = v (ix2 b t) := by
  unfold over
  refine (broadcastInDim_apply _ bcast_S256x512x1_S256x512x1024_0_1_2 _ _ (ix3 b t 0) ?_).trans
    (broadcastInDim_apply _ bcast_S256x512_S256x512x1_0_1 v _ (ix2 b t) ?_)
  · intro a; fin_cases a
    · show b.val = if (256 : ℕ) = 1 then 0 else b.val; rw [if_neg (by decide)]
    · show t.val = if (512 : ℕ) = 1 then 0 else t.val; rw [if_neg (by decide)]
    · rfl
  · intro a; fin_cases a
    · show b.val = if (256 : ℕ) = 1 then 0 else b.val; rw [if_neg (by decide)]
    · show t.val = if (512 : ℕ) = 1 then 0 else t.val; rw [if_neg (by decide)]

theorem spread0 (T : Shape) (h : S_.BroadcastsInDim T ![]) (x : BitVec 32) (j : T.Idx) :
    broadcastInDim T ![] h (constant S_ .f32 x : FVec Ideal S_ .f32) j = (FloatOps.ofBits .f32 x : Ideal .f32) :=
  broadcastInDim_apply _ h _ _ ix0 (fun a => a.elim0)

theorem red_frames : S256x512x1024.Reduces [2] S256x512 := by decide
theorem red_chan : S256x512x32.Reduces [2] S256x512 := by decide
theorem red_code : S32x1024.Reduces [0] S1024 := by decide

theorem lift_frames (b : Fin 256) (t : Fin 512) (m : Fin 1024) : red_frames.lift (ix2 b t) m = ix3 b t m := by
  funext a; apply Fin.ext; fin_cases a <;> rfl
theorem lift_chan (b : Fin 256) (t : Fin 512) (m : Fin 32) : red_chan.lift (ix2 b t) m = ix3 b t m := by
  funext a; apply Fin.ext; fin_cases a <;> rfl
theorem lift_code (m : Fin 1024) (i : Fin 32) : red_code.lift (ix1 m) i = ix2 i m := by
  funext a; apply Fin.ext; fin_cases a <;> rfl

theorem sum_frames (x : FVec Ideal S256x512x1024 .f32) (b : Fin 256) (t : Fin 512) :
    Host.reduceAdd x (constant S_ .f32 0x00000000#32) reducesTo_S256x512x1024_S256x512_d2 h_S_ (ix2 b t)
      = ∑ m : Fin 1024, (x (ix3 b t m) : EReal) := by
  refine (Ideal.hostReduceAdd_single reducesTo_S256x512x1024_S256x512_d2 red_frames x _ (ix2 b t)).trans ?_
  refine (congrArg (· + _) Ideal.ofBits_zero_f32).trans ((zero_add _).trans ?_)
  exact Finset.sum_congr rfl fun q _ => congrArg x (lift_frames b t q)

theorem sum_chan (x : FVec Ideal S256x512x32 .f32) (b : Fin 256) (t : Fin 512) :
    Host.reduceAdd x (constant S_ .f32 0x00000000#32) reducesTo_S256x512x32_S256x512_d2 h_S_ (ix2 b t)
      = ∑ i : Fin 32, (x (ix3 b t i) : EReal) := by
  refine (Ideal.hostReduceAdd_single reducesTo_S256x512x32_S256x512_d2 red_chan x _ (ix2 b t)).trans ?_
  refine (congrArg (· + _) Ideal.ofBits_zero_f32).trans ((zero_add _).trans ?_)
  exact Finset.sum_congr rfl fun q _ => congrArg x (lift_chan b t q)

theorem sum_code (x : FVec Ideal S32x1024 .f32) (m : Fin 1024) :
    Host.reduceAdd x (constant S_ .f32 0x00000000#32) reducesTo_S32x1024_S1024_d0 h_S_ (ix1 m)
      = ∑ i : Fin 32, (x (ix2 i m) : EReal) := by
  refine (Ideal.hostReduceAdd_single reducesTo_S32x1024_S1024_d0 red_code x _ (ix1 m)).trans ?_
  refine (congrArg (· + _) Ideal.ofBits_zero_f32).trans ((zero_add _).trans ?_)
  exact Finset.sum_congr rfl fun q _ => congrArg x (lift_code m q)

theorem reduce_max {s t : Shape} {a : Fin s.rank} (x : FVec Ideal s .f32) (h' : s.ReducesTo [a] t) (h : s.Reduces [a] t)
    (hu : 0 < S_.numel) (j : t.Idx) :
    Host.reduce FloatOps.maximumf x (constant S_ .f32 0xFF800000#32) h' hu j
      = (Finset.univ : Finset (Fin (s.size a))).fold max (⊥ : EReal) (fun k => x (h.lift j k)) := by
  refine (Host.reduce_eq_fold_single FloatOps.maximumf x _ h' h hu j).trans ?_
  exact congrArg (fun z : EReal => Finset.fold max z (fun k => x (h.lift j k)) Finset.univ) bot_f32

theorem max_frames (l : FVec Ideal S256x512x1024 .f32) (b : Fin 256) (t : Fin 512) :
    Host.reduce FloatOps.maximumf l (constant S_ .f32 0xFF800000#32) reducesTo_S256x512x1024_S256x512_d2 h_S_ (ix2 b t)
      = Finset.univ.fold max (⊥ : EReal) fun m : Fin 1024 => l (ix3 b t m) := by
  refine (reduce_max l _ red_frames h_S_ (ix2 b t)).trans ?_
  refine congrArg (Finset.fold max (⊥ : EReal) · Finset.univ) (funext fun q => ?_)
  exact congrArg l (lift_frames b t q)

theorem max_of_bot {s : Shape} (x y : FVec Ideal s .f32) (j : s.Idx) (z : EReal) (hx : x j = (⊥ : EReal)) (hy : y j = z) :
    maximumf x y j = z := by
  show max (x j : EReal) (y j) = z
  rw [hx, hy]; exact max_bot_left z

theorem rmax_apply (l : FVec Ideal S256x512x1024 .f32) (b : Fin 256) (t : Fin 512) :
    rmax l (ix2 b t) = Finset.univ.fold max ⊥ fun m : Fin 1024 => (l (ix3 b t m) : EReal) :=
  max_of_bot _ _ _ _ ((spread0 S256x512 bcast_S_S256x512 0xFF800000#32 (ix2 b t)).trans bot_f32) (max_frames l b t)

theorem rexp_apply (l : FVec Ideal S256x512x1024 .f32) (b : Fin 256) (t : Fin 512) (m : Fin 1024) :
    rexp l (ix3 b t m) = Ideal.exp ((l (ix3 b t m) : EReal) - Finset.univ.fold max ⊥ fun q : Fin 1024 => (l (ix3 b t q) : EReal)) := by
  show Ideal.exp ((l (ix3 b t m) : EReal) - over (rmax l) (ix3 b t m)) = _
  rw [over_apply, rmax_apply]

theorem rsoft_apply (l : FVec Ideal S256x512x1024 .f32) (b : Fin 256) (t : Fin 512) (m : Fin 1024) :
    rsoft l (ix3 b t m) = soft (fun q => (l (ix3 b t q) : EReal)) m := by
  show Ideal.div (rexp l (ix3 b t m)) (over _ (ix3 b t m)) = _
  rw [over_apply, sum_frames]
  simp only [rexp_apply]
  rfl

theorem dot_logit (l : FVec Ideal S256x512x32 .f32) (r : FVec Ideal S32x1024 .f32) (b : Fin 256) (t : Fin 512) (m : Fin 1024) :
    Host.dotGeneral dot_S256x512x32_S32x1024_S256x512x1024_2_0_01_1_n_n none l r (ix3 b t m)
      = ∑ i : Fin 32, (l (ix3 b t i) : EReal) * r (ix2 i m) := by
  simp only [Host.dotGeneral]
  rw [Ideal.dotGeneral_apply, ← Equiv.sum_comp (contrEquiv1 dot_S256x512x32_S32x1024_S256x512x1024_2_0_01_1_n_n 32 rfl rfl).symm]
  refine Finset.sum_congr rfl fun k _ => ?_
  have hk := contrEquiv1_symm_val dot_S256x512x32_S32x1024_S256x512x1024_2_0_01_1_n_n 32 rfl rfl k
  congr 1
  · refine congrArg l (funext fun a => Fin.ext ?_)
    match a with
    | ⟨0, _⟩ => rfl
    | ⟨1, _⟩ => rfl
    | ⟨2, _⟩ => exact hk
  · refine congrArg r (funext fun a => Fin.ext ?_)
    match a with
    | ⟨0, _⟩ => exact hk
    | ⟨1, _⟩ => rfl

theorem dot_mix (l : FVec Ideal S32x1024 .f32) (r : FVec Ideal S256x512x1024 .f32) (c : Fin 32) (b : Fin 256) (t : Fin 512) :
    Host.dotGeneral dot_S32x1024_S256x512x1024_S32x256x512_1_2_0_01_n_n none l r (ix3 c b t)
      = ∑ m : Fin 1024, (l (ix2 c m) : EReal) * r (ix3 b t m) := by
  simp only [Host.dotGeneral]
  rw [Ideal.dotGeneral_apply, ← Equiv.sum_comp (contrEquiv1 dot_S32x1024_S256x512x1024_S32x256x512_1_2_0_01_n_n 1024 rfl rfl).symm]
  refine Finset.sum_congr rfl fun k _ => ?_
  have hk := contrEquiv1_symm_val dot_S32x1024_S256x512x1024_S32x256x512_1_2_0_01_n_n 1024 rfl rfl k
  congr 1
  · refine congrArg l (funext fun a => Fin.ext ?_)
    match a with
    | ⟨0, _⟩ => rfl
    | ⟨1, _⟩ => exact hk
  · refine congrArg r (funext fun a => Fin.ext ?_)
    match a with
    | ⟨0, _⟩ => rfl
    | ⟨1, _⟩ => rfl
    | ⟨2, _⟩ => exact hk

theorem rlogit_apply (xp : FVec Ideal S256x512x32 .f32) (code : FVec Ideal S32x1024 .f32) (b : Fin 256) (t : Fin 512) (m : Fin 1024) :
    rlogit xp code (ix3 b t m)
      = -(((∑ i : Fin 32, (xp (ix3 b t i) : EReal) * xp (ix3 b t i)) - 2 * ∑ i : Fin 32, (xp (ix3 b t i) : EReal) * code (ix2 i m))
          + ∑ i : Fin 32, (code (ix2 i m) : EReal) * code (ix2 i m)) := by
  have e1 := (over_apply _ b t m).trans (sum_chan (mulf xp xp) b t)
  have e2 := (spread0 S256x512x1024 bcast_S_S256x512x1024 0x40000000#32 (ix3 b t m)).trans two_f32
  have e3 := dot_logit xp code b t m
  have e4 : broadcastInDim S256x512x1024 ![0, 1, 2] bcast_S1x1x1024_S256x512x1024_0_1_2
      (broadcastInDim S1x1x1024 ![2] bcast_S1024_S1x1x1024_2
        (Host.reduceAdd (mulf code code) (constant S_ .f32 0x00000000#32) reducesTo_S32x1024_S1024_d0 h_S_)) (ix3 b t m)
      = ∑ i : Fin 32, (code (ix2 i m) : EReal) * code (ix2 i m) := by
    refine (broadcastInDim_apply _ bcast_S1x1x1024_S256x512x1024_0_1_2 _ _ (ix3 0 0 m) ?_).trans
      ((broadcastInDim_apply _ bcast_S1024_S1x1x1024_2 _ _ (ix1 m) ?_).trans (sum_code _ m))
    · intro a; fin_cases a
      · rfl
      · rfl
      · show m.val = if (1024 : ℕ) = 1 then 0 else m.val; rw [if_neg (by decide)]
    · intro a; fin_cases a
      show m.val = if (1024 : ℕ) = 1 then 0 else m.val; rw [if_neg (by decide)]
  have e5 : broadcastInDim S256x512x1024 ![] bcast_S_S256x512x1024 (constant S_ .f32 0x3F800000#32 : FVec Ideal S_ .f32) (ix3 b t m)
      = (1 : EReal) := (spread0 S256x512x1024 bcast_S_S256x512x1024 0x3F800000#32 (ix3 b t m)).trans Ideal.ofBits_one_f32
  show (-((_ - _ * _) + _) * _ : EReal) = _
  refine (congrArg₂ (fun x y : EReal => x * y) (congrArg (fun z : EReal => -z) (congrArg₂ (fun x y : EReal => x + y)
    (congrArg₂ (fun x y : EReal => x - y) e1 (congrArg₂ (fun x y : EReal => x * y) e2 e3)) e4)) e5).trans ?_
  exact mul_one _

theorem coe_sum {n : ℕ} (f : Fin n → ℝ) : (∑ i, (f i : EReal)) = ((∑ i, f i : ℝ) : EReal) :=
  (map_sum (⟨⟨fun x : ℝ => (x : EReal), rfl⟩, EReal.coe_add⟩ : ℝ →+ EReal) f Finset.univ).symm

theorem two_coe : (2 : EReal) = ((2 : ℝ) : EReal) := rfl

/-- At finite channels and codes the reference's quantiser is the mathematics. -/
theorem mem_rquant (X : FVec Ideal S256x32x512 .f32) (code : FVec Ideal S32x1024 .f32) (C : Fin 32 → Fin 1024 → ℝ)
    (hC : ∀ i m, code (ix2 i m) = (C i m : EReal)) (b : Fin 256) (A : Fin 32 → Fin 512 → ℝ)
    (hA : ∀ i t, X (ix3 b i t) = (A i t : EReal)) :
    mem (rquant X code) b = quant (fun i m => (C i m : EReal)) (mem X b) := by
  funext c t
  have hx : ∀ i, transpose S256x512x32 [0, 2, 1] X transposes_S256x32x512_S256x512x32_0_2_1 (ix3 b t i) = (A i t : EReal) := by
    intro i
    refine (transpose_apply [0, 2, 1] X transposes_S256x32x512_S256x512x32_0_2_1 (ix3 b t i) (ix3 b i t) ?_).trans (hA i t)
    intro a; fin_cases a <;> rfl
  have hl : (fun m : Fin 1024 => (rlogit (transpose S256x512x32 [0, 2, 1] X transposes_S256x32x512_S256x512x32_0_2_1) code
      (ix3 b t m) : EReal)) = fun m => ((2 * (∑ i, A i t * C i m) - ∑ i, C i m * C i m : ℝ) : EReal)
        + ((-(∑ i, A i t * A i t) : ℝ) : EReal) := by
    funext m
    rw [rlogit_apply]
    simp only [hx, hC, ← EReal.coe_mul, coe_sum, two_coe, ← EReal.coe_sub, ← EReal.coe_add, ← EReal.coe_neg]
    congr 1; ring
  have hk : logit (fun i m => (C i m : EReal)) (fun i => mem X b i t)
      = fun m => ((2 * (∑ i, A i t * C i m) - ∑ i, C i m * C i m : ℝ) : EReal) := by
    funext m
    unfold logit mem
    simp only [hA, ← EReal.coe_mul, coe_sum, two_coe, ← EReal.coe_sub]
  unfold quant
  rw [hk, ← soft_add _ (-(∑ i, A i t * A i t)), ← hl]
  show rquant X code (ix3 b c t) = _
  unfold rquant
  refine (transpose_apply [1, 0, 2] _ transposes_S32x256x512_S256x32x512_1_0_2 (ix3 b c t) (ix3 c b t) ?_).trans ?_
  · intro a; fin_cases a <;> rfl
  rw [dot_mix]
  refine Finset.sum_congr rfl fun m _ => ?_
  rw [rsoft_apply, hC, mul_comm]

end Cert.RefQuant

end
-- ==== Proof.RefStages.lean ====
module

public import proofs.«01_k».proof.Proof.Gen.ReferenceIdeal.Read
public import proofs.«01_k».proof.Proof.RefQuant
public import proofs.«01_k».proof.Proof.Net
public import Idealize.ShloMosaic.Lib.StackMember

@[expose] public section

noncomputable section

/-! The reference's two results, read stage by stage as the network on every batch member. -/

namespace Cert.RefStages

open Idealize.ShloMosaic Idealize.ShloMosaic.ValueIdx Cert.ReferenceIdeal Cert.ReferenceIdeal.Gen Cert.ReferenceIdeal.Read
open Cert.KConv Cert.RefConv Cert.Quant Cert.RefQuant Cert.Net

theorem fr_enc1 : FR 1 5 3 514 1 := by
  refine ⟨by decide, by decide, by decide, ?_, by decide, by decide⟩
  intro k hk; interval_cases k <;> exact ⟨by decide, by decide, by decide, by decide, by decide⟩
theorem fr_mid : FR 5 10 5 516 2 := by
  refine ⟨by decide, by decide, by decide, ?_, by decide, by decide⟩
  intro k hk; interval_cases k <;> exact ⟨by decide, by decide, by decide, by decide, by decide⟩
theorem fr_enc3 : FR 10 64 7 518 3 := by
  refine ⟨by decide, by decide, by decide, ?_, by decide, by decide⟩
  intro k hk; interval_cases k <;> exact ⟨by decide, by decide, by decide, by decide, by decide⟩
theorem fr_dec1 : FR 32 5 7 518 3 := by
  refine ⟨by decide, by decide, by decide, ?_, by decide, by decide⟩
  intro k hk; interval_cases k <;> exact ⟨by decide, by decide, by decide, by decide, by decide⟩
theorem fr_dec3 : FR 10 32 3 514 1 := by
  refine ⟨by decide, by decide, by decide, ?_, by decide, by decide⟩
  intro k hk; interval_cases k <;> exact ⟨by decide, by decide, by decide, by decide, by decide⟩

variable (x0 : FVec Ideal S256x512 .f32) (x1 : FVec Ideal S5x1x3 .f32) (x2 : FVec Ideal S5 .f32) (x3 : FVec Ideal S10x5x5 .f32)
  (x4 : FVec Ideal S10 .f32) (x5 : FVec Ideal S64x10x7 .f32) (x6 : FVec Ideal S64 .f32) (x7 : FVec Ideal S5x32x7 .f32)
  (x8 : FVec Ideal S5 .f32) (x9 : FVec Ideal S10x5x5 .f32) (x10 : FVec Ideal S10 .f32) (x11 : FVec Ideal S32x10x3 .f32)
  (x12 : FVec Ideal S32 .f32) (x13 : FVec Ideal S5x32x7 .f32) (x14 : FVec Ideal S5 .f32) (x15 : FVec Ideal S10x5x5 .f32)
  (x16 : FVec Ideal S10 .f32) (x17 : FVec Ideal S32x10x3 .f32) (x18 : FVec Ideal S32 .f32)
  (x19 : FVec Ideal S512x16384 .f32) (x20 : FVec Ideal S512 .f32) (x21 : FVec Ideal S32x1024 .f32)

theorem v22_eq : val_main_v22 (F := Ideal) x0 x1 x2 = rrelu (rconv3 fr_enc1 (val_main_v0 (F := Ideal) x0) x1 x2) bcast_S_S256x5x512 := rfl
theorem v56_eq : val_main_v56 (F := Ideal) x0 x1 x2 x3 x4
    = rrelu (rconv5 fr_mid (val_main_v22 (F := Ideal) x0 x1 x2) x3 x4) bcast_S_S256x10x512 := rfl
theorem v102_eq : val_main_v102 (F := Ideal) x0 x1 x2 x3 x4 x5 x6
    = Host.tanh (rconv7 fr_enc3 (val_main_v56 (F := Ideal) x0 x1 x2 x3 x4) x5 x6) := rfl
theorem v134_eq : val_main_v134 (F := Ideal) x0 x1 x2 x3 x4 x5 x6 x21
    = rquant (extractStridedSlice S256x32x512 ![0, 0, 0] (val_main_v102 (F := Ideal) x0 x1 x2 x3 x4 x5 x6)
      slices_S256x64x512_S256x32x512_0_0_0) x21 := rfl
theorem v164_eq : val_main_v164 (F := Ideal) x0 x1 x2 x3 x4 x5 x6 x21
    = rquant (extractStridedSlice S256x32x512 ![0, 32, 0] (val_main_v102 (F := Ideal) x0 x1 x2 x3 x4 x5 x6)
      slices_S256x64x512_S256x32x512_0_32_0) x21 := rfl
/-- A decoder of the reference. -/
def rdec (q : FVec Ideal S256x32x512 .f32) (w1 : FVec Ideal S5x32x7 .f32) (b1 : FVec Ideal S5 .f32) (w2 : FVec Ideal S10x5x5 .f32)
    (b2 : FVec Ideal S10 .f32) (w3 : FVec Ideal S32x10x3 .f32) (b3 : FVec Ideal S32 .f32) : FVec Ideal S256x32x512 .f32 :=
  rrelu (rconv3 fr_dec3 (rrelu (rconv5 fr_mid (rrelu (rconv7 fr_dec1 q w1 b1) bcast_S_S256x5x512) w2 b2)
    bcast_S_S256x10x512) w3 b3) bcast_S_S256x32x512
theorem v266_eq : val_main_v266 (F := Ideal) x0 x1 x2 x3 x4 x5 x6 x7 x8 x9 x10 x11 x12 x21
    = rdec (val_main_v134 (F := Ideal) x0 x1 x2 x3 x4 x5 x6 x21) x7 x8 x9 x10 x11 x12 := rfl
theorem v375_eq : val_main_v375 (F := Ideal) x0 x1 x2 x3 x4 x5 x6 x13 x14 x15 x16 x17 x18 x21
    = rdec (val_main_v164 (F := Ideal) x0 x1 x2 x3 x4 x5 x6 x21) x13 x14 x15 x16 x17 x18 := rfl
/-- The dense layer of the reference. -/
def rdense (y : FVec Ideal S256x32x512 .f32) (w : FVec Ideal S512x16384 .f32) (b : FVec Ideal S512 .f32) : FVec Ideal S256x512 .f32 :=
  Host.tanh (addf (Host.dotGeneral (DotDims.plain 256 16384 512) none
      (shapeCast S256x16384 y shapeCasts_S256x32x512_S256x16384)
      (transpose S16384x512 [1, 0] w transposes_S512x16384_S16384x512_1_0))
    (broadcastInDim S256x512 ![0, 1] bcast_S1x512_S256x512_0_1 (broadcastInDim S1x512 ![1] bcast_S512_S1x512_1 b)))
theorem v273_eq : val_main_v273 (F := Ideal) x0 x1 x2 x3 x4 x5 x6 x7 x8 x9 x10 x11 x12 x19 x20 x21
    = rdense (val_main_v266 (F := Ideal) x0 x1 x2 x3 x4 x5 x6 x7 x8 x9 x10 x11 x12 x21) x19 x20 := rfl
theorem v382_eq : val_main_v382 (F := Ideal) x0 x1 x2 x3 x4 x5 x6 x13 x14 x15 x16 x17 x18 x19 x20 x21
    = rdense (val_main_v375 (F := Ideal) x0 x1 x2 x3 x4 x5 x6 x13 x14 x15 x16 x17 x18 x21) x19 x20 := rfl

/-- The frames of batch member `b`. -/
def sig1 (x0 : FVec Ideal S256x512 .f32) (b : Fin 256) : Fin 1 → Fin 512 → EReal := fun _ t => x0 (ix2 b t)
/-- The dense layer's weights by output, channel and frame. -/
def fcw (x19 : FVec Ideal S512x16384 .f32) : Fin 512 → Fin 32 → Fin 512 → EReal := fun n c t =>
  x19 (ix2 n ⟨c.val * 512 + t.val, by omega⟩)

theorem mem_v0 (b : Fin 256) : mem (val_main_v0 (F := Ideal) x0) b = sig1 x0 b := by
  funext i t
  refine broadcastInDim_apply _ bcast_S256x512_S256x1x512_0_2 x0 _ (ix2 b t) ?_
  intro a; fin_cases a
  · show b.val = if (256 : ℕ) = 1 then 0 else b.val; rw [if_neg (by decide)]
  · show t.val = if (512 : ℕ) = 1 then 0 else t.val; rw [if_neg (by decide)]

/-- The encoded batch member. -/
def henc (b : Fin 256) : Fin 64 → Fin 512 → EReal := enc (wgt x1) (bia x2) (wgt x3) (bia x4) (wgt x5) (bia x6) (sig1 x0 b)

theorem mem_v102 (b : Fin 256) : mem (val_main_v102 (F := Ideal) x0 x1 x2 x3 x4 x5 x6) b = henc x0 x1 x2 x3 x4 x5 x6 b := by
  have e : mem (val_main_v102 (F := Ideal) x0 x1 x2 x3 x4 x5 x6) b
      = tanhs (mem (rconv7 fr_enc3 (val_main_v56 (F := Ideal) x0 x1 x2 x3 x4) x5 x6) b) := by rw [v102_eq]; rfl
  rw [e, mem_rconv7, v56_eq, mem_rrelu, mem_rconv5, v22_eq, mem_rrelu, mem_rconv3, mem_v0]
  rfl

theorem mem_half (X : FVec Ideal S256x64x512 .f32) (off : ℕ) (ho : off + 32 ≤ 64) (hs : S256x64x512.Slices ![0, off, 0] S256x32x512)
    (b : Fin 256) : mem (extractStridedSlice S256x32x512 ![0, off, 0] X hs) b = half off ho (mem X b) := by
  funext i t
  refine extractStridedSlice_apply _ X hs (ix3 b i t) (ix3 b ⟨off + i.val, by omega⟩ t) ?_
  intro a; fin_cases a
  · show b.val = 0 + b.val; omega
  · rfl
  · show t.val = 0 + t.val; omega

theorem mem_quant_half (off : ℕ) (ho : off + 32 ≤ 64) (hs : S256x64x512.Slices ![0, off, 0] S256x32x512)
    (C : Fin 32 → Fin 1024 → ℝ) (hC : ∀ i m, x21 (ix2 i m) = (C i m : EReal)) (b : Fin 256) :
    mem (rquant (extractStridedSlice S256x32x512 ![0, off, 0] (val_main_v102 (F := Ideal) x0 x1 x2 x3 x4 x5 x6) hs) x21) b
      = quant (fun i m => (C i m : EReal)) (half off ho (henc x0 x1 x2 x3 x4 x5 x6 b)) := by
  have hm := mem_half (val_main_v102 (F := Ideal) x0 x1 x2 x3 x4 x5 x6) off ho hs b
  rw [mem_v102] at hm
  have hr : ∀ i t, ∃ a : ℝ, half off ho (henc x0 x1 x2 x3 x4 x5 x6 b) i t = (a : EReal) := fun i t => tanh_real _
  choose A hA using hr
  rw [mem_rquant _ x21 C hC b A (fun i t => (congrFun (congrFun hm i) t).trans (hA i t)), hm]

theorem mem_rdec (q : FVec Ideal S256x32x512 .f32) (w1 : FVec Ideal S5x32x7 .f32) (b1 : FVec Ideal S5 .f32)
    (w2 : FVec Ideal S10x5x5 .f32) (b2 : FVec Ideal S10 .f32) (w3 : FVec Ideal S32x10x3 .f32) (b3 : FVec Ideal S32 .f32) (b : Fin 256) :
    mem (rdec q w1 b1 w2 b2 w3 b3) b = dec (wgt w1) (bia b1) (wgt w2) (bia b2) (wgt w3) (bia b3) (mem q b) := by
  unfold rdec
  rw [mem_rrelu, mem_rconv3, mem_rrelu, mem_rconv5, mem_rrelu, mem_rconv7]
  rfl

theorem tanh_add_apply {s : Shape} (X Y : FVec Ideal s .f32) (i : s.Idx) :
    Host.tanh (addf X Y) i = Ideal.tanh ((X i : EReal) + Y i) := rfl

theorem rdense_apply (y : FVec Ideal S256x32x512 .f32) (w : FVec Ideal S512x16384 .f32) (v : FVec Ideal S512 .f32)
    (b : Fin 256) (n : Fin 512) : rdense y w v (ix2 b n) = dense (fcw w) (bia v) (mem y b) n := by
  have hv : broadcastInDim S256x512 ![0, 1] bcast_S1x512_S256x512_0_1 (broadcastInDim S1x512 ![1] bcast_S512_S1x512_1 v) (ix2 b n)
      = bia v n := by
    refine (broadcastInDim_apply _ bcast_S1x512_S256x512_0_1 _ _ (ix2 0 n) ?_).trans
      (broadcastInDim_apply _ bcast_S512_S1x512_1 v _ (ix1 n) ?_)
    · intro a; fin_cases a
      · rfl
      · show n.val = if (512 : ℕ) = 1 then 0 else n.val; rw [if_neg (by decide)]
    · intro a; fin_cases a
      show n.val = if (512 : ℕ) = 1 then 0 else n.val; rw [if_neg (by decide)]
  have hd : Host.dotGeneral (DotDims.plain 256 16384 512) none
      (shapeCast S256x16384 y shapeCasts_S256x32x512_S256x16384)
      (transpose S16384x512 [1, 0] w transposes_S512x16384_S16384x512_1_0) (ix2 b n)
      = ∑ c, ∑ t, mem y b c t * fcw w n c t := by
    rw [Idealize.ShloMosaic.StackMember.dotGeneral_plain_apply, sum_split (K := 32) (ci := 512) (by norm_num)]
    refine Finset.sum_congr rfl fun c _ => Finset.sum_congr rfl fun t _ => ?_
    congr 1
    · refine shapeCast_apply y shapeCasts_S256x32x512_S256x16384 _ (ix3 b c t) ?_
      rw [Shape.rowMajor_val_three, Shape.rowMajor_val_two]
      show (b.val * 32 + c.val) * 512 + t.val = b.val * 16384 + (c.val * 512 + t.val)
      omega
    · refine transpose_apply [1, 0] w transposes_S512x16384_S16384x512_1_0 _ (ix2 n ⟨c.val * 512 + t.val, by omega⟩) ?_
      intro a; fin_cases a <;> rfl
  unfold rdense dense
  refine (tanh_add_apply _ _ _).trans ?_
  rw [hd, hv]

/-- The reference's first result. -/
theorem v273_apply (C : Fin 32 → Fin 1024 → ℝ) (hC : ∀ i m, x21 (ix2 i m) = (C i m : EReal)) (b : Fin 256) (n : Fin 512) :
    val_main_v273 (F := Ideal) x0 x1 x2 x3 x4 x5 x6 x7 x8 x9 x10 x11 x12 x19 x20 x21 (ix2 b n)
      = dense (fcw x19) (bia x20) (dec (wgt x7) (bia x8) (wgt x9) (bia x10) (wgt x11) (bia x12)
        (quant (fun i m => (C i m : EReal)) (half 0 (by decide) (henc x0 x1 x2 x3 x4 x5 x6 b)))) n := by
  rw [v273_eq, rdense_apply, v266_eq, mem_rdec, v134_eq, mem_quant_half x0 x1 x2 x3 x4 x5 x6 x21 0 (by decide) _ C hC]

/-- The reference's second result. -/
theorem v382_apply (C : Fin 32 → Fin 1024 → ℝ) (hC : ∀ i m, x21 (ix2 i m) = (C i m : EReal)) (b : Fin 256) (n : Fin 512) :
    val_main_v382 (F := Ideal) x0 x1 x2 x3 x4 x5 x6 x13 x14 x15 x16 x17 x18 x19 x20 x21 (ix2 b n)
      = dense (fcw x19) (bia x20) (dec (wgt x13) (bia x14) (wgt x15) (bia x16) (wgt x17) (bia x18)
        (quant (fun i m => (C i m : EReal)) (half 32 (by decide) (henc x0 x1 x2 x3 x4 x5 x6 b)))) n := by
  rw [v382_eq, rdense_apply, v375_eq, mem_rdec, v164_eq, mem_quant_half x0 x1 x2 x3 x4 x5 x6 x21 32 (by decide) _ C hC]

end Cert.RefStages

end
-- ==== Proof.Equation.lean ====
module

public import proofs.«01_k».proof.Proof.HostOps
public import proofs.«01_k».proof.Proof.Region1
public import proofs.«01_k».proof.Proof.RefStages

@[expose] public section

noncomputable section

/-! The kernel's two results are the reference's, for a code book of real numbers. -/

namespace Cert.Equation

open Idealize.ShloMosaic Idealize.ShloMosaic.TcCoe Idealize.ShloMosaic.ValueIdx Cert.KernelIdeal Cert.KernelIdeal.Gen
open Idealize.SL Idealize.ShloMosaic.Pipeline Idealize.SL.Sem
open Cert.KConv Cert.Quant Cert.Net Cert.KBlock Cert.RefConv Cert.Region0 Cert.RefStages Cert.Region1

/-- The dense layer over features flattened frame by frame is the dense layer over features flattened channel by channel. -/
theorem fcOut_dense (Y : FVec Ideal S256x16384 .f32) (W : FVec Ideal S16384x512 .f32) (B : FVec Ideal S1x512 .f32) (b : Fin 256) (n : Fin 512)
    (x19 : FVec Ideal S512x16384 .f32) (x20 : FVec Ideal S512 .f32) (y : Fin 32 → Fin 512 → EReal)
    (hW : ∀ (t : Fin 512) (i : Fin 32) (q : Fin 16384), q.val = t.val * 32 + i.val → ∀ p : Fin 16384, p.val = i.val * 512 + t.val →
      W (ix2 q n) = x19 (ix2 n p))
    (hB : B (ix2 0 n) = x20 (ix1 n))
    (hY : ∀ (t : Fin 512) (i : Fin 32) (q : Fin 16384), q.val = t.val * 32 + i.val → Y (ix2 b q) = y i t) :
    fcOut Y W B b n = dense (fcw x19) (bia x20) y n := by
  unfold fcOut dense
  rw [hB, sum_split (K := 512) (ci := 32) (by norm_num), Finset.sum_comm]
  refine congrArg (fun z : EReal => Ideal.tanh (z + x20 (ix1 n))) ?_
  refine Finset.sum_congr rfl fun i _ => Finset.sum_congr rfl fun t _ => ?_
  rw [hY t i _ rfl, hW t i _ rfl ⟨i.val * 512 + t.val, by omega⟩ rfl]
  rfl

variable (m : (ℓ : Loc nD τ sig) → Buf (Elt Ideal) ℓ) (ρ : Dev nD → PrngReg) (c : Dev nD)
variable (C : Fin 32 → Fin 1024 → ℝ)
  (hC : ∀ i k, (m ((c : Thread nD τ).loc main_arg21) : FVec Ideal S32x1024 .f32) (ix2 i k) = (C i k : EReal))

theorem hrow_eq (b : Fin 256) : hrow (V1 m ρ) c b = (henc (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) b) := by
  unfold hrow
  rw [HostOps.w2 m ρ c, HostOps.w3 m ρ c, HostOps.w5 m ρ c, HostOps.w6 m ρ c, HostOps.w8 m ρ c, HostOps.w9 m ρ c, HostOps.w0 m ρ c b]
  rfl

include hC in
theorem qrow_eq (off : ℕ) (ho : off + 32 ≤ 64) (b : Fin 256) : qrow (V1 m ρ) c off ho b
    = quant (fun i k => (C i k : EReal)) (half off ho (henc (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) b)) := by
  unfold qrow
  rw [hrow_eq, HostOps.w_code]
  exact congrArg (fun f => quant f _) (funext fun i => funext fun k => hC i k)

include hC

theorem y1_eq (b : Fin 256) : y1 (V1 m ρ) c b = dec (wgt (m ((c : Thread nD τ).loc main_arg7))) (bia (m ((c : Thread nD τ).loc main_arg8))) (wgt (m ((c : Thread nD τ).loc main_arg9))) (bia (m ((c : Thread nD τ).loc main_arg10))) (wgt (m ((c : Thread nD τ).loc main_arg11))) (bia (m ((c : Thread nD τ).loc main_arg12)))
    (quant (fun i k => (C i k : EReal)) (half 0 (by decide) (henc (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) b))) := by
  unfold y1
  rw [qrow_eq m ρ c C hC, HostOps.w11 m ρ c, HostOps.w12 m ρ c, HostOps.w14 m ρ c, HostOps.w15 m ρ c, HostOps.w17 m ρ c, HostOps.w18 m ρ c]

theorem y2_eq (b : Fin 256) : y2 (V1 m ρ) c b = dec (wgt (m ((c : Thread nD τ).loc main_arg13))) (bia (m ((c : Thread nD τ).loc main_arg14))) (wgt (m ((c : Thread nD τ).loc main_arg15))) (bia (m ((c : Thread nD τ).loc main_arg16))) (wgt (m ((c : Thread nD τ).loc main_arg17))) (bia (m ((c : Thread nD τ).loc main_arg18)))
    (quant (fun i k => (C i k : EReal)) (half 32 (by decide) (henc (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) b))) := by
  unfold y2
  rw [qrow_eq m ρ c C hC, HostOps.w20 m ρ c, HostOps.w21 m ρ c, HostOps.w23 m ρ c, HostOps.w24 m ρ c, HostOps.w26 m ρ c, HostOps.w27 m ρ c]

/-- The kernel's first result is the reference's. -/
theorem out1 : (dat1 (V3 m ρ) c).arrAt 4 cfg1.N = Cert.ReferenceIdeal.Read.val_main_v273 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg19)) (m ((c : Thread nD τ).loc main_arg20)) (m ((c : Thread nD τ).loc main_arg21)) := by
  rw [Region1.final4]
  funext j
  rw [show j = ix2 (j 0) (j 1) from by funext a; fin_cases a <;> rfl]
  generalize j 0 = b
  generalize j 1 = n
  refine Eq.trans ?_ (RefStages.v273_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg19)) (m ((c : Thread nD τ).loc main_arg20)) (m ((c : Thread nD τ).loc main_arg21)) C hC b n).symm
  refine fcOut_dense _ _ _ b n _ _ _ (fun t i q hq p hp => HostOps.w32 m ρ c t i n q hq p hp) (HostOps.w35 m ρ c n) fun t i q hq => ?_
  rw [HostOps.w33 m ρ c b t i q hq, show W2 m ρ c (Proc.devRef .tc main_call0_v29_0) = _ from W2_arr m ρ c 21, Region0.final21 (V1 m ρ) c (HostOps.w28 m ρ c)]
  exact congrFun (congrFun (y1_eq m ρ c C hC b) i) t

/-- The kernel's second result is the reference's. -/
theorem out2 : (dat1 (V3 m ρ) c).arrAt 5 cfg1.N = Cert.ReferenceIdeal.Read.val_main_v382 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  rw [Region1.final5]
  funext j
  rw [show j = ix2 (j 0) (j 1) from by funext a; fin_cases a <;> rfl]
  generalize j 0 = b
  generalize j 1 = n
  refine Eq.trans ?_ (RefStages.v382_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) C hC b n).symm
  refine fcOut_dense _ _ _ b n _ _ _ (fun t i q hq p hp => HostOps.w32 m ρ c t i n q hq p hp) (HostOps.w35 m ρ c n) fun t i q hq => ?_
  rw [HostOps.w34 m ρ c b t i q hq, show W2 m ρ c (Proc.devRef .tc main_call0_v29_1) = _ from W2_arr m ρ c 22, Region0.final22 (V1 m ρ) c (HostOps.w28 m ρ c)]
  exact congrFun (congrFun (y2_eq m ρ c C hC b) i) t

end Cert.Equation

end
-- ==== Proof.Code.lean ====
module

public import proofs.«01_k».proof.Pre_finite_code
public import Idealize.ShloMosaic.PureOps.Ideal
public import Idealize.ShloMosaic.Lib.ValueIdx

@[expose] public section

noncomputable section

/-! The precondition: a code book that passes it holds real numbers. -/

namespace Cert.Code

open Idealize.ShloMosaic Idealize.ShloMosaic.ValueIdx

theorem facts : Cert.Pre_finite_code.Facts := ⟨by decide⟩

theorem top_word : Ideal.ofBits .f32 0x7F800000#32 = ⊤ := by simp [Ideal.ofBits, Ideal.ieee]

/-- A number whose magnitude compares below infinity is real. -/
theorem real_of_cmp (x : EReal) (h : Ideal.cmp .olt (max x (-x)) (Ideal.ofBits .f32 0x7F800000#32) = 1#1) : x = ((x.toReal : ℝ) : EReal) := by
  rw [top_word] at h
  have hlt : max x (-x) < ⊤ := by
    by_contra hn
    revert h
    show ¬(BitVec.ofBool (decide (max x (-x) < ⊤)) = 1#1)
    rw [decide_eq_false hn]
    decide
  refine (EReal.coe_toReal ?_ ?_).symm
  · rintro rfl
    simp at hlt
  · rintro rfl
    simp at hlt

end Cert.Code

end
-- ==== Proof.lean ====
/- The proof of the claim: the frames, the idealised kernel, and the equality of both results with the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Read
public import proofs.«01_k».proof.Pre_finite_code
public import proofs.«01_k».proof.Proof.RefRun
public import proofs.«01_k».proof.Proof.RefResults
public import proofs.«01_k».proof.Proof.Run
public import proofs.«01_k».proof.Proof.Equation
public import proofs.«01_k».proof.Proof.Code
public import Idealize.ShloMosaic.Adequacy
public import Idealize.ShloMosaic.Init

@[expose] public section

noncomputable section

namespace Cert.Proof

open Idealize.ShloMosaic Idealize.ShloMosaic.ValueIdx Idealize.SL.Sem

instance : Cert.Pre_finite_code.Facts := Cert.Code.facts

/-- Under the precondition every entry of the code book is a real number. -/
theorem code_real (m : (ℓ : Loc Cert.KernelIdeal.nD Cert.KernelIdeal.τ Cert.KernelIdeal.sig) → Buf (Elt Ideal) ℓ)
    (h : Cert.Pre_KernelIdeal_finite_code m) (c : Dev Cert.KernelIdeal.nD) (i : Fin 32) (k : Fin 1024) :
    (m ((c.tc : Thread Cert.KernelIdeal.nD Cert.KernelIdeal.τ).loc Cert.KernelIdeal.main_arg21) : FVec Ideal Cert.KernelIdeal.S32x1024 .f32) (ix2 i k)
      = ((((m ((c.tc : Thread Cert.KernelIdeal.nD Cert.KernelIdeal.τ).loc Cert.KernelIdeal.main_arg21) : FVec Ideal Cert.KernelIdeal.S32x1024 .f32) (ix2 i k)
          : EReal).toReal : ℝ) : EReal) :=
  Cert.Code.real_of_cmp _ (congrFun (h c) (ix2 i k))

/-- The kernel and the reference compute the same two results. -/
theorem equal : Cert.algebraic_KernelIdeal_ReferenceIdeal_pre_finite_code (hKernelIdeal := Cert.KernelIdeal.Gen.facts)
    (hReferenceIdeal := Cert.ReferenceIdeal.Gen.facts) (hPre_finite_code := Cert.Code.facts) := by
  intro m g m' g' hpre hargs
  refine ⟨fun c => Cert.ReferenceIdeal.Read.val_main_v273 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)),
    fun c => Cert.ReferenceIdeal.Read.val_main_v382 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)), ?_, ?_⟩
  · refine (θ_run _ _ _).mono (fun r h c => ⟨(h c).1.trans ?_, (h c).2.1.trans ?_, (h c).2.2⟩) (Cert.Run.results m g)
    · exact Cert.Equation.out1 m g c _ (code_real m hpre c)
    · exact Cert.Equation.out2 m g c _ (code_real m hpre c)
  · refine (θ_run _ _ _).mono (fun r h c => ⟨(h c).1.trans ?_, (h c).2.1.trans ?_, (h c).2.2⟩) (Cert.RefResults.results m' g')
    · obtain ⟨h0, h1, h2, h3, h4, h5, h6, h7, h8, h9, h10, h11, h12, h13, h14, h15, h16, h17, h18, h19, h20, h21⟩ := hargs c
      exact Cert.RefResults.congr_v273 h0 h1 h2 h3 h4 h5 h6 h7 h8 h9 h10 h11 h12 h19 h20 h21
    · obtain ⟨h0, h1, h2, h3, h4, h5, h6, h7, h8, h9, h10, h11, h12, h13, h14, h15, h16, h17, h18, h19, h20, h21⟩ := hargs c
      exact Cert.RefResults.congr_v382 h0 h1 h2 h3 h4 h5 h6 h13 h14 h15 h16 h17 h18 h19 h20 h21

theorem claim : Cert.Claim := ⟨Cert.Kernel.Gen.facts, Cert.KernelIdeal.Gen.facts, Cert.ReferenceIdeal.Gen.facts, Cert.Code.facts,
  fun m ρ _ => Cert.Kernel.Gen.frame m ρ, fun m ρ _ => Cert.KernelIdeal.Gen.frame m ρ, fun m ρ _ => Cert.KernelIdeal.Gen.frame m ρ,
  fun m ρ _ => Cert.RefRun.frame m ρ, fun m ρ _ => Cert.RefRun.frame m ρ, trivial, equal⟩

end Cert.Proof

end
